-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def preserves_Kernel_KernelIdeal : Prop :=
  True

def algebraic_KernelIdeal_ReferenceIdeal_on_unclipped [hKernelIdeal : Cert.KernelIdeal.Facts] [hReferenceIdeal : Cert.ReferenceIdeal.Facts] [hOn_unclipped : Cert.On_unclipped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![128, 2048]⟩ : Shape).Idx, (Layout.block ⟨2, ![128, 2048]⟩ ⟨2, ![4096, 2048]⟩ 0 32 c ((Cert.On_unclipped.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![128, 2048]⟩ : Shape).Idx → _) i = 1#1 → r.2.mem ((c.tc : Thread Cert.KernelIdeal.nD Cert.KernelIdeal.τ).loc Cert.KernelIdeal.main_v1) i = (Layout.block ⟨2, ![128, 2048]⟩ ⟨2, ![4096, 2048]⟩ 0 32 c v0 : (⟨2, ![128, 2048]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 2048]⟩ : Shape).Idx, (Cert.On_unclipped.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v6) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = m' (((0 : Dev Cert.SiluIdeal.nD).tc : Thread Cert.SiluIdeal.nD Cert.SiluIdeal.τ).loc Cert.SiluIdeal.main_arg1)) →
    ∃ (v0 : Buf (Elt Ideal) (((0 : Dev Cert.SiluIdeal.nD).tc : Thread Cert.SiluIdeal.nD Cert.SiluIdeal.τ).loc Cert.SiluIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v5) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def Claim : Prop :=
  ∃ (hKernel : Cert.Kernel.Facts) (hKernelIdeal : Cert.KernelIdeal.Facts) (hReferenceIdeal : Cert.ReferenceIdeal.Facts) (hSiluIdeal : Cert.SiluIdeal.Facts) (hOn_unclipped : Cert.On_unclipped.Facts),
    quiescent_Kernel (hKernel := hKernel)
    ∧ quiescent_KernelIdeal (hKernelIdeal := hKernelIdeal)
    ∧ quiescent_ReferenceIdeal (hReferenceIdeal := hReferenceIdeal)
    ∧ quiescent_SiluIdeal (hSiluIdeal := hSiluIdeal)
    ∧ preserves_Kernel_KernelIdeal
    ∧ algebraic_KernelIdeal_ReferenceIdeal_on_unclipped (hKernelIdeal := hKernelIdeal) (hReferenceIdeal := hReferenceIdeal) (hOn_unclipped := hOn_unclipped)
    ∧ algebraic_KernelIdeal_SiluIdeal (hKernelIdeal := hKernelIdeal) (hSiluIdeal := hSiluIdeal)
-- ==== On_unclipped.lean ====
abbrev S4096x4096 : Shape := ⟨2, ![4096, 4096]⟩
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .f32) (main_arg1 : FVec F S4096x2048 .f32) : IVec S4096x2048 1 :=
  let main_v0 : FVec F S4096x2048 .f32 := (fun l r => Host.dotGeneral dot_S4096x4096_S4096x2048_S4096x2048_1_0_0_1_n_n none l r) main_arg0 main_arg1
  let main_v1 : FVec F S4096x2048 .f32 := Host.absf main_v0
  let main_cst : FVec F S_ .f32 := constant S_ .f32 0x42700000#32
  let main_v2 : FVec F S4096x2048 .f32 := broadcastInDim S4096x2048 ![] bcast_S_S4096x2048 main_cst
  let main_v3 : IVec S4096x2048 1 := cmpf .ole main_v1 main_v2
  main_v3
-- ==== Kernel.lean ====
abbrev S4096x128 : Shape := ⟨2, ![4096, 128]⟩
abbrev S4096x2048 : Shape := ⟨2, ![4096, 2048]⟩
abbrev S128x2048 : Shape := ⟨2, ![128, 2048]⟩
abbrev S128x4096 : Shape := ⟨2, ![128, 4096]⟩
abbrev S32 : Shape := ⟨1, ![32]⟩
abbrev S_ : Shape := ⟨0, ![]⟩
abbrev S128x128 : Shape := ⟨2, ![128, 128]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S4096x128, .f32⟩
  | .hbm, ⟨1, _⟩ => ⟨S4096x2048, .f32⟩
  | .hbm, ⟨2, _⟩ => ⟨S128x2048, .f32⟩
  | .local _ .vmem, ⟨0, _⟩ => ⟨S4096x128, .f32⟩
  | .local _ .vmem, ⟨1, _⟩ => ⟨S4096x2048, .f32⟩
  | .local _ .vmem, ⟨2, _⟩ => ⟨S128x2048, .f32⟩
  | .local _ .vmem, ⟨3, _⟩ => ⟨S128x4096, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v128 : BitVec 32 := Scalar.muli v2 c128_i32
  let v129 : Index := Scalar.indexCast v128
  let c0 : Index := 0#32
  ![v129.toNat, 0]
def k0_off2 (d0 : Dev nD) : Fin 2 → Nat :=
  let c0_126 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_125 : BitVec 32 := 128#32
  let v132 : BitVec 32 := Scalar.muli v2 c128_i32_125
  let v133 : Index := Scalar.indexCast v132
  ![0, v133.toNat]
def k0_off3 (d0 : Dev nD) : Fin 2 → Nat :=
  let c0_i32_135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_130 : BitVec 32 := 128#32
  let v140 : BitVec 32 := Scalar.muli v2 c128_i32_130
  ![0, v140.toNat]
def k0_off4 (d0 : Dev nD) (c1_i32_127 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v137 : BitVec 32 := Scalar.addi v2 c1_i32_127
  let c32_i32_128 : BitVec 32 := 32#32
  let v138 : BitVec 32 := Scalar.remsi v137 c32_i32_128
  let c128_i32_129 : BitVec 32 := 128#32
  let v139 : BitVec 32 := Scalar.muli v138 c128_i32_129
  let c0_i32_136 : BitVec 32 := 0#32
  ![v139.toNat, 0]
def k0_dev32 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_127 : BitVec 32 := 1#32
  let v137 : BitVec 32 := Scalar.addi v2 c1_i32_127
  let c32_i32_128 : BitVec 32 := 32#32
  let v138 : BitVec 32 := Scalar.remsi v137 c32_i32_128
  let c1_i32_133 : BitVec 32 := 1#32
  let v141 : BitVec 32 := Scalar.muli v138 c1_i32_133
  let v142 : BitVec 32 := Scalar.addi c0_i32_134 v141
  v142.toNat
def k0_dev33 (d0 : Dev nD) : Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_137 : BitVec 32 := 2#32
  let v149 : BitVec 32 := Scalar.addi v2 c2_i32_137
  let c32_i32_138 : BitVec 32 := 32#32
  let v150 : BitVec 32 := Scalar.remsi v149 c32_i32_138
  let c1_i32_143 : BitVec 32 := 1#32
  let v153 : BitVec 32 := Scalar.muli v150 c1_i32_143
  let v154 : BitVec 32 := Scalar.addi c0_i32_144 v153
  v154.toNat
def k0_dev34 (d0 : Dev nD) : Nat :=
  let c0_i32_154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_147 : BitVec 32 := 3#32
  let v161 : BitVec 32 := Scalar.addi v2 c3_i32_147
  let c32_i32_148 : BitVec 32 := 32#32
  let v162 : BitVec 32 := Scalar.remsi v161 c32_i32_148
  let c1_i32_153 : BitVec 32 := 1#32
  let v165 : BitVec 32 := Scalar.muli v162 c1_i32_153
  let v166 : BitVec 32 := Scalar.addi c0_i32_154 v165
  v166.toNat
def k0_dev35 (d0 : Dev nD) : Nat :=
  let c0_i32_164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_157 : BitVec 32 := 4#32
  let v173 : BitVec 32 := Scalar.addi v2 c4_i32_157
  let c32_i32_158 : BitVec 32 := 32#32
  let v174 : BitVec 32 := Scalar.remsi v173 c32_i32_158
  let c1_i32_163 : BitVec 32 := 1#32
  let v177 : BitVec 32 := Scalar.muli v174 c1_i32_163
  let v178 : BitVec 32 := Scalar.addi c0_i32_164 v177
  v178.toNat
def k0_dev36 (d0 : Dev nD) : Nat :=
  let c0_i32_174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_167 : BitVec 32 := 5#32
  let v185 : BitVec 32 := Scalar.addi v2 c5_i32_167
  let c32_i32_168 : BitVec 32 := 32#32
  let v186 : BitVec 32 := Scalar.remsi v185 c32_i32_168
  let c1_i32_173 : BitVec 32 := 1#32
  let v189 : BitVec 32 := Scalar.muli v186 c1_i32_173
  let v190 : BitVec 32 := Scalar.addi c0_i32_174 v189
  v190.toNat
def k0_dev37 (d0 : Dev nD) : Nat :=
  let c0_i32_184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_177 : BitVec 32 := 6#32
  let v197 : BitVec 32 := Scalar.addi v2 c6_i32_177
  let c32_i32_178 : BitVec 32 := 32#32
  let v198 : BitVec 32 := Scalar.remsi v197 c32_i32_178
  let c1_i32_183 : BitVec 32 := 1#32
  let v201 : BitVec 32 := Scalar.muli v198 c1_i32_183
  let v202 : BitVec 32 := Scalar.addi c0_i32_184 v201
  v202.toNat
def k0_dev38 (d0 : Dev nD) : Nat :=
  let c0_i32_194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_187 : BitVec 32 := 7#32
  let v209 : BitVec 32 := Scalar.addi v2 c7_i32_187
  let c32_i32_188 : BitVec 32 := 32#32
  let v210 : BitVec 32 := Scalar.remsi v209 c32_i32_188
  let c1_i32_193 : BitVec 32 := 1#32
  let v213 : BitVec 32 := Scalar.muli v210 c1_i32_193
  let v214 : BitVec 32 := Scalar.addi c0_i32_194 v213
  v214.toNat
def k0_dev39 (d0 : Dev nD) : Nat :=
  let c0_i32_204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_197 : BitVec 32 := 8#32
  let v221 : BitVec 32 := Scalar.addi v2 c8_i32_197
  let c32_i32_198 : BitVec 32 := 32#32
  let v222 : BitVec 32 := Scalar.remsi v221 c32_i32_198
  let c1_i32_203 : BitVec 32 := 1#32
  let v225 : BitVec 32 := Scalar.muli v222 c1_i32_203
  let v226 : BitVec 32 := Scalar.addi c0_i32_204 v225
  v226.toNat
def k0_dev40 (d0 : Dev nD) : Nat :=
  let c0_i32_214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_207 : BitVec 32 := 9#32
  let v233 : BitVec 32 := Scalar.addi v2 c9_i32_207
  let c32_i32_208 : BitVec 32 := 32#32
  let v234 : BitVec 32 := Scalar.remsi v233 c32_i32_208
  let c1_i32_213 : BitVec 32 := 1#32
  let v237 : BitVec 32 := Scalar.muli v234 c1_i32_213
  let v238 : BitVec 32 := Scalar.addi c0_i32_214 v237
  v238.toNat
def k0_dev41 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_217 : BitVec 32 := 10#32
  let v245 : BitVec 32 := Scalar.addi v2 c10_i32_217
  let c32_i32_218 : BitVec 32 := 32#32
  let v246 : BitVec 32 := Scalar.remsi v245 c32_i32_218
  let c1_i32_223 : BitVec 32 := 1#32
  let v249 : BitVec 32 := Scalar.muli v246 c1_i32_223
  let v250 : BitVec 32 := Scalar.addi c0_i32_224 v249
  v250.toNat
def k0_dev42 (d0 : Dev nD) : Nat :=
  let c0_i32_234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_227 : BitVec 32 := 11#32
  let v257 : BitVec 32 := Scalar.addi v2 c11_i32_227
  let c32_i32_228 : BitVec 32 := 32#32
  let v258 : BitVec 32 := Scalar.remsi v257 c32_i32_228
  let c1_i32_233 : BitVec 32 := 1#32
  let v261 : BitVec 32 := Scalar.muli v258 c1_i32_233
  let v262 : BitVec 32 := Scalar.addi c0_i32_234 v261
  v262.toNat
def k0_dev43 (d0 : Dev nD) : Nat :=
  let c0_i32_244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_237 : BitVec 32 := 12#32
  let v269 : BitVec 32 := Scalar.addi v2 c12_i32_237
  let c32_i32_238 : BitVec 32 := 32#32
  let v270 : BitVec 32 := Scalar.remsi v269 c32_i32_238
  let c1_i32_243 : BitVec 32 := 1#32
  let v273 : BitVec 32 := Scalar.muli v270 c1_i32_243
  let v274 : BitVec 32 := Scalar.addi c0_i32_244 v273
  v274.toNat
def k0_dev44 (d0 : Dev nD) : Nat :=
  let c0_i32_254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_247 : BitVec 32 := 13#32
  let v281 : BitVec 32 := Scalar.addi v2 c13_i32_247
  let c32_i32_248 : BitVec 32 := 32#32
  let v282 : BitVec 32 := Scalar.remsi v281 c32_i32_248
  let c1_i32_253 : BitVec 32 := 1#32
  let v285 : BitVec 32 := Scalar.muli v282 c1_i32_253
  let v286 : BitVec 32 := Scalar.addi c0_i32_254 v285
  v286.toNat
def k0_dev45 (d0 : Dev nD) : Nat :=
  let c0_i32_264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_257 : BitVec 32 := 14#32
  let v293 : BitVec 32 := Scalar.addi v2 c14_i32_257
  let c32_i32_258 : BitVec 32 := 32#32
  let v294 : BitVec 32 := Scalar.remsi v293 c32_i32_258
  let c1_i32_263 : BitVec 32 := 1#32
  let v297 : BitVec 32 := Scalar.muli v294 c1_i32_263
  let v298 : BitVec 32 := Scalar.addi c0_i32_264 v297
  v298.toNat
def k0_dev46 (d0 : Dev nD) : Nat :=
  let c0_i32_274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_267 : BitVec 32 := 15#32
  let v305 : BitVec 32 := Scalar.addi v2 c15_i32_267
  let c32_i32_268 : BitVec 32 := 32#32
  let v306 : BitVec 32 := Scalar.remsi v305 c32_i32_268
  let c1_i32_273 : BitVec 32 := 1#32
  let v309 : BitVec 32 := Scalar.muli v306 c1_i32_273
  let v310 : BitVec 32 := Scalar.addi c0_i32_274 v309
  v310.toNat
def k0_dev47 (d0 : Dev nD) : Nat :=
  let c0_i32_284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_277 : BitVec 32 := 16#32
  let v317 : BitVec 32 := Scalar.addi v2 c16_i32_277
  let c32_i32_278 : BitVec 32 := 32#32
  let v318 : BitVec 32 := Scalar.remsi v317 c32_i32_278
  let c1_i32_283 : BitVec 32 := 1#32
  let v321 : BitVec 32 := Scalar.muli v318 c1_i32_283
  let v322 : BitVec 32 := Scalar.addi c0_i32_284 v321
  v322.toNat
def k0_dev48 (d0 : Dev nD) : Nat :=
  let c0_i32_294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_287 : BitVec 32 := 17#32
  let v329 : BitVec 32 := Scalar.addi v2 c17_i32_287
  let c32_i32_288 : BitVec 32 := 32#32
  let v330 : BitVec 32 := Scalar.remsi v329 c32_i32_288
  let c1_i32_293 : BitVec 32 := 1#32
  let v333 : BitVec 32 := Scalar.muli v330 c1_i32_293
  let v334 : BitVec 32 := Scalar.addi c0_i32_294 v333
  v334.toNat
def k0_dev49 (d0 : Dev nD) : Nat :=
  let c0_i32_304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_297 : BitVec 32 := 18#32
  let v341 : BitVec 32 := Scalar.addi v2 c18_i32_297
  let c32_i32_298 : BitVec 32 := 32#32
  let v342 : BitVec 32 := Scalar.remsi v341 c32_i32_298
  let c1_i32_303 : BitVec 32 := 1#32
  let v345 : BitVec 32 := Scalar.muli v342 c1_i32_303
  let v346 : BitVec 32 := Scalar.addi c0_i32_304 v345
  v346.toNat
def k0_dev50 (d0 : Dev nD) : Nat :=
  let c0_i32_314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_307 : BitVec 32 := 19#32
  let v353 : BitVec 32 := Scalar.addi v2 c19_i32_307
  let c32_i32_308 : BitVec 32 := 32#32
  let v354 : BitVec 32 := Scalar.remsi v353 c32_i32_308
  let c1_i32_313 : BitVec 32 := 1#32
  let v357 : BitVec 32 := Scalar.muli v354 c1_i32_313
  let v358 : BitVec 32 := Scalar.addi c0_i32_314 v357
  v358.toNat
def k0_dev51 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_317 : BitVec 32 := 20#32
  let v365 : BitVec 32 := Scalar.addi v2 c20_i32_317
  let c32_i32_318 : BitVec 32 := 32#32
  let v366 : BitVec 32 := Scalar.remsi v365 c32_i32_318
  let c1_i32_323 : BitVec 32 := 1#32
  let v369 : BitVec 32 := Scalar.muli v366 c1_i32_323
  let v370 : BitVec 32 := Scalar.addi c0_i32_324 v369
  v370.toNat
def k0_dev52 (d0 : Dev nD) : Nat :=
  let c0_i32_334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_327 : BitVec 32 := 21#32
  let v377 : BitVec 32 := Scalar.addi v2 c21_i32_327
  let c32_i32_328 : BitVec 32 := 32#32
  let v378 : BitVec 32 := Scalar.remsi v377 c32_i32_328
  let c1_i32_333 : BitVec 32 := 1#32
  let v381 : BitVec 32 := Scalar.muli v378 c1_i32_333
  let v382 : BitVec 32 := Scalar.addi c0_i32_334 v381
  v382.toNat
def k0_dev53 (d0 : Dev nD) : Nat :=
  let c0_i32_344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_337 : BitVec 32 := 22#32
  let v389 : BitVec 32 := Scalar.addi v2 c22_i32_337
  let c32_i32_338 : BitVec 32 := 32#32
  let v390 : BitVec 32 := Scalar.remsi v389 c32_i32_338
  let c1_i32_343 : BitVec 32 := 1#32
  let v393 : BitVec 32 := Scalar.muli v390 c1_i32_343
  let v394 : BitVec 32 := Scalar.addi c0_i32_344 v393
  v394.toNat
def k0_dev54 (d0 : Dev nD) : Nat :=
  let c0_i32_354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_347 : BitVec 32 := 23#32
  let v401 : BitVec 32 := Scalar.addi v2 c23_i32_347
  let c32_i32_348 : BitVec 32 := 32#32
  let v402 : BitVec 32 := Scalar.remsi v401 c32_i32_348
  let c1_i32_353 : BitVec 32 := 1#32
  let v405 : BitVec 32 := Scalar.muli v402 c1_i32_353
  let v406 : BitVec 32 := Scalar.addi c0_i32_354 v405
  v406.toNat
def k0_dev55 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_357 : BitVec 32 := 24#32
  let v413 : BitVec 32 := Scalar.addi v2 c24_i32_357
  let c32_i32_358 : BitVec 32 := 32#32
  let v414 : BitVec 32 := Scalar.remsi v413 c32_i32_358
  let c1_i32_363 : BitVec 32 := 1#32
  let v417 : BitVec 32 := Scalar.muli v414 c1_i32_363
  let v418 : BitVec 32 := Scalar.addi c0_i32_364 v417
  v418.toNat
def k0_dev56 (d0 : Dev nD) : Nat :=
  let c0_i32_374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_367 : BitVec 32 := 25#32
  let v425 : BitVec 32 := Scalar.addi v2 c25_i32_367
  let c32_i32_368 : BitVec 32 := 32#32
  let v426 : BitVec 32 := Scalar.remsi v425 c32_i32_368
  let c1_i32_373 : BitVec 32 := 1#32
  let v429 : BitVec 32 := Scalar.muli v426 c1_i32_373
  let v430 : BitVec 32 := Scalar.addi c0_i32_374 v429
  v430.toNat
def k0_dev57 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_377 : BitVec 32 := 26#32
  let v437 : BitVec 32 := Scalar.addi v2 c26_i32_377
  let c32_i32_378 : BitVec 32 := 32#32
  let v438 : BitVec 32 := Scalar.remsi v437 c32_i32_378
  let c1_i32_383 : BitVec 32 := 1#32
  let v441 : BitVec 32 := Scalar.muli v438 c1_i32_383
  let v442 : BitVec 32 := Scalar.addi c0_i32_384 v441
  v442.toNat
def k0_dev58 (d0 : Dev nD) : Nat :=
  let c0_i32_394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_387 : BitVec 32 := 27#32
  let v449 : BitVec 32 := Scalar.addi v2 c27_i32_387
  let c32_i32_388 : BitVec 32 := 32#32
  let v450 : BitVec 32 := Scalar.remsi v449 c32_i32_388
  let c1_i32_393 : BitVec 32 := 1#32
  let v453 : BitVec 32 := Scalar.muli v450 c1_i32_393
  let v454 : BitVec 32 := Scalar.addi c0_i32_394 v453
  v454.toNat
def k0_dev59 (d0 : Dev nD) : Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_397 : BitVec 32 := 28#32
  let v461 : BitVec 32 := Scalar.addi v2 c28_i32_397
  let c32_i32_398 : BitVec 32 := 32#32
  let v462 : BitVec 32 := Scalar.remsi v461 c32_i32_398
  let c1_i32_403 : BitVec 32 := 1#32
  let v465 : BitVec 32 := Scalar.muli v462 c1_i32_403
  let v466 : BitVec 32 := Scalar.addi c0_i32_404 v465
  v466.toNat
def k0_dev60 (d0 : Dev nD) : Nat :=
  let c0_i32_414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_407 : BitVec 32 := 29#32
  let v473 : BitVec 32 := Scalar.addi v2 c29_i32_407
  let c32_i32_408 : BitVec 32 := 32#32
  let v474 : BitVec 32 := Scalar.remsi v473 c32_i32_408
  let c1_i32_413 : BitVec 32 := 1#32
  let v477 : BitVec 32 := Scalar.muli v474 c1_i32_413
  let v478 : BitVec 32 := Scalar.addi c0_i32_414 v477
  v478.toNat
def k0_dev61 (d0 : Dev nD) : Nat :=
  let c0_i32_424 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_417 : BitVec 32 := 30#32
  let v485 : BitVec 32 := Scalar.addi v2 c30_i32_417
  let c32_i32_418 : BitVec 32 := 32#32
  let v486 : BitVec 32 := Scalar.remsi v485 c32_i32_418
  let c1_i32_423 : BitVec 32 := 1#32
  let v489 : BitVec 32 := Scalar.muli v486 c1_i32_423
  let v490 : BitVec 32 := Scalar.addi c0_i32_424 v489
  v490.toNat
def k0_dev62 (d0 : Dev nD) : Nat :=
  let c0_i32_434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_427 : BitVec 32 := 31#32
  let v497 : BitVec 32 := Scalar.addi v2 c31_i32_427
  let c32_i32_428 : BitVec 32 := 32#32
  let v498 : BitVec 32 := Scalar.remsi v497 c32_i32_428
  let c1_i32_433 : BitVec 32 := 1#32
  let v501 : BitVec 32 := Scalar.muli v498 c1_i32_433
  let v502 : BitVec 32 := Scalar.addi c0_i32_434 v501
  v502.toNat
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== SiluIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Prog.lean ====
/-
# The kernel's body as loops over the offset `s = 1 … 31`

The printed body is unrolled: 31 signals, one wait, the copy of the device's own block, 31 remote copies, 31 pairs of
waits, the product. Here it is written once per loop, at a symbolic offset, and shown to be the printed text.
-/
module

public import proofs.«01_k».proof.Proof.Gen.KernelIdeal
public import proofs.«01_k».proof.Proof.Gen.KernelIdeal.Skeleton

@[expose] public section

noncomputable section

namespace Cert.A2A

open Cert.KernelIdeal Cert.KernelIdeal.Gen
open Idealize.ShloMosaic Idealize.ShloMosaic.TcCoe Idealize.SL.Sem

variable {F : FTy → Type} [FloatOps F]

/-- The device `s` places after `c`, around the 32. -/
def shift (s : Fin 32) (c : Dev nD) : Dev nD := ⟨(c.val + s.val) % 32, Nat.mod_lt _ (by decide)⟩

/-- The printed chain for the peer's id, at the offset's word `w`. -/
def chain (c : Dev nD) (w : BitVec 32) : ℕ :=
  (Scalar.addi 0#32 (Scalar.muli (Scalar.remsi (Scalar.addi (Scalar.remsi (Scalar.divsi (Dev.word c) 1#32) 32#32) w) 32#32) 1#32)).toNat

theorem chain_eq : ∀ (c : Dev nD) (s : Fin 32), chain c (BitVec.ofNat 32 s.val) = (c.val + s.val) % 32 := by decide +kernel

theorem chain_lt (c : Dev nD) (s : Fin 32) : chain c (BitVec.ofNat 32 s.val) < nD := by
  rw [chain_eq]; exact Nat.mod_lt _ (by decide)

/-- The peer at offset `s`, as the body computes it, -/
def peer (c : Dev nD) (s : Fin 32) : Dev nD := ⟨chain c (BitVec.ofNat 32 s.val), chain_lt c s⟩
/-- and which device that is. -/
theorem peer_eq (c : Dev nD) (s : Fin 32) : peer c s = shift s c := Fin.ext (chain_eq c s)

theorem row_inb : ∀ (c : Dev nD) (s : Fin 32) (a), (k0_off4 c (BitVec.ofNat 32 s.val)) a + S128x128.size a ≤ S4096x128.size a := by
  decide +kernel

theorem sem_inb : ∀ (s : Fin 32) (a), (![s.val] : Fin 1 → ℕ) a + S1.size a ≤ S32.size a := by decide

/-- The kernel's buffers: the staged block of `x`, the staged `w`, the staged result, the gathered rows. -/
abbrev xM : Memref sig .tc .vmem S4096x128 .f32 := Memref.whole cc0_stg0_0
abbrev wM : Memref sig .tc .vmem S4096x2048 .f32 := Memref.whole cc0_stg1_0
abbrev oM : Memref sig .tc .vmem S128x2048 .f32 := Memref.whole cc0_stg2_0
abbrev gM : Memref sig .tc .vmem S128x4096 .f32 := Memref.whole cc0_scratch0

/-- The 128 rows of the staged block that go to the peer at offset `s`, -/
abbrev rowV (c : Dev nD) (s : Fin 32) : Memref sig .tc .vmem S128x128 .f32 :=
  xM.slice (Rect.unit (s := S4096x128) (k0_off4 c (BitVec.ofNat 32 s.val)) S128x128.size (row_inb c s)) (fun _ => rfl)
/-- and the 128 columns of the gathered rows that device `c` fills. -/
abbrev colV (c : Dev nD) : Memref sig .tc .vmem S128x128 .f32 :=
  gM.slice (Rect.unit (s := S128x4096) (k0_off3 c) S128x128.size (k0_off3_inb c)) (fun _ => rfl)

/-- The barrier semaphore, and the send and receive semaphores at offset `s`. -/
abbrev barS : Sem sig := (SemArray.scalar (sig.barrier 0 rfl) : Sems sig S_).sem
abbrev sendS (s : Fin 32) : DmaSem sig :=
  ((cc0_scratch1.slice (Rect.unit (s := S32) ![s.val] S1.size (sem_inb s)) : DmaSems sig S1).squeeze S_ squeezes_S1_S_).sem
abbrev recvS (s : Fin 32) : DmaSem sig :=
  ((cc0_scratch2.slice (Rect.unit (s := S32) ![s.val] S1.size (sem_inb s)) : DmaSems sig S1).squeeze S_ squeezes_S1_S_).sem

/-- The offsets, in the body's order. -/
def offs : List (Fin 32) :=
  [1, 2, 3, 4, 5, 6, 7, 8, 9, 10, 11, 12, 13, 14, 15, 16, 17, 18, 19, 20, 21, 22, 23, 24, 25, 26, 27, 28, 29, 30, 31]

abbrev Eff (F : FTy → Type) : Type → Type := TpuEff nD τ sig (Elt F) Λ₀ .tc

/-- One step per offset of the list, then the rest. -/
def each {α : Type} (l : List (Fin 32)) (p : Fin 32 → Prog (Eff F) α → Prog (Eff F) α) (k : Prog (Eff F) α) : Prog (Eff F) α :=
  l.foldr p k

/-- The signal to the peer at offset `s`; -/
def signalStep {α : Type} (c : Dev nD) (s : Fin 32) (k : Prog (Eff F) α) : Prog (Eff F) α :=
  .op (.semSignal (peer c s, .tc) barS (1#32 : BitVec 32).toInt) fun _ => k
/-- the copy to it; -/
def sendStep {α : Type} (c : Dev nD) (s : Fin 32) (k : Prog (Eff F) α) : Prog (Eff F) α :=
  .op (.enqueueDma (rowV c s) (.remote (Dev.tc (peer c s)) (colV c) (.dma (sendS s))) (.dma (recvS s))
    (View.wordExact_bits rfl) (View.wordExact_bits rfl) ⟨⟨rfl, Or.inl rfl⟩, trivial⟩) fun _ => k
/-- the two waits at offset `s`. -/
def waitStep {α : Type} (c : Dev nD) (s : Fin 32) (k : Prog (Eff F) α) : Prog (Eff F) α :=
  .op (.waitDma2 (sendS s) (colV c) (rowV c s) (View.wordExact_bits rfl) (View.wordExact_bits rfl)) fun _ =>
    .op (.waitDma2 (recvS s) (rowV c s) (colV c) (View.wordExact_bits rfl) (View.wordExact_bits rfl)) fun _ => k

/-- The device's own block, copied by a load and a store; -/
def ownStep {α : Type} (c : Dev nD) (k : Prog (Eff F) α) : Prog (Eff F) α :=
  .op (.load xM (Rect.unit (s := S4096x128) (k0_off1 c) S128x128.size (k0_off1_inb c)).toLoadRect (View.loadsAt_vmem h_S128x128)) fun v =>
    .op (.load gM (Rect.unit (s := S128x4096) (k0_off2 c) S128x128.size (k0_off2_inb c)).toLoadRect (View.loadsAt_vmem h_S128x128)) fun _ =>
      .op (.store gM (Rect.unit (s := S128x4096) (k0_off2 c) S128x128.size (k0_off2_inb c)) (k0_pay2 v) Finset.univ
        (View.stores_vmem_bits_univ h_S128x128 rfl) (.inl rfl)) fun _ => k

/-- the product, its epilogue and the store of the result. -/
def productStep : Prog (Eff F) PUnit :=
  .op (.load gM (Rect.unit (s := S128x4096) ![0, 0] S128x4096.size inb_S128x4096_S128x4096_0_0).toLoadRect (View.loadsAt_vmem h_S128x4096)) fun v =>
    .op (.load wM (Rect.unit (s := S4096x2048) ![0, 0] S4096x2048.size inb_S4096x2048_S4096x2048_0_0).toLoadRect (View.loadsAt_vmem h_S4096x2048)) fun u =>
      .op (.load oM (Rect.unit (s := S128x2048) ![0, 0] S128x2048.size inb_S128x2048_S128x2048_0_0).toLoadRect (View.loadsAt_vmem h_S128x2048)) fun _ =>
        .op (.store oM (Rect.unit (s := S128x2048) ![0, 0] S128x2048.size inb_S128x2048_S128x2048_0_0) (k0_pay1 (k0_pay3 v u) k0_pay4) Finset.univ
          (View.stores_vmem_bits_univ h_S128x2048 rfl) (.inl rfl)) fun _ => .ret ⟨⟩

/-- The body on device `c`. -/
def bodyOn (c : Dev nD) : Prog (Eff F) PUnit :=
  each offs (signalStep c) <|
    .op (.semWait barS (31#32 : BitVec 32).toInt) fun _ =>
      ownStep c <| each offs (sendStep c) <| each offs (waitStep c) productStep

set_option maxRecDepth 100000 in
set_option maxHeartbeats 4000000 in
/-- The printed body reads its device and then runs `bodyOn` there. -/
theorem body_eq :
    cc0_body (F := F) xM (Memref.isWhole_whole _) wM (Memref.isWhole_whole _) oM (Memref.isWhole_whole _) gM (Memref.isWhole_whole _)
      cc0_scratch1 cc0_scratch2 = .op .deviceId fun c => bodyOn c := by
  rfl

end Cert.A2A

end
-- ==== Proof.Proto.lean ====
/-
# The protocol of the all-to-all: who hands what to whom

Every device signals every other one's barrier cell; with the signal it hands over the columns of its gathered rows that
the other is to fill. A device that has heard from all others holds its columns of every peer, and each copy hands
those columns on, filled, through the peer's receive cell. The rows a copy reads come back through the send cell.
-/
module

public import proofs.«01_k».proof.Proof.Prog
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The offsets as a group acting on the devices -/

theorem shift_val (s : Fin 32) (c : Dev nD) : (shift s c).val = (c.val + s.val) % 32 := rfl

theorem shift_neg_shift (s : Fin 32) (c : Dev nD) : shift (-s) (shift s c) = c := by
  revert s c; decide +kernel
theorem shift_shift_neg (s : Fin 32) (c : Dev nD) : shift s (shift (-s) c) = c := by
  revert s c; decide +kernel
theorem shift_zero (c : Dev nD) : shift 0 c = c := by revert c; decide +kernel

/-- Moving `s` places on, as a permutation of the devices; -/
def turn (s : Fin 32) : Dev nD ≃ Dev nD := ⟨shift s, shift (-s), shift_neg_shift s, shift_shift_neg s⟩

theorem shift_bij (c : Dev nD) : Function.Bijective fun s : Fin 32 => shift s c := by
  revert c; decide +kernel
/-- and the devices, seen from `c`, as offsets. -/
def around (c : Dev nD) : Fin 32 ≃ Dev nD := Equiv.ofBijective _ (shift_bij c)
theorem around_apply (c : Dev nD) (s : Fin 32) : around c s = shift s c := rfl

theorem offs_nodup : offs.Nodup := by decide
theorem offs_toFinset : offs.toFinset = Finset.univ.erase 0 := by decide

/-! ## Resources -/

/-- The protocol's rounds, with the offsets as duty names, beside the pipeline's own. -/
abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

/-- A semaphore of the kernel's own: a send (`false`) or a receive (`true`) semaphore at an offset. -/
abbrev Own : Type := Bool × Fin 32
/-- A cell of a device: its barrier, or an own one. -/
abbrev Kind : Type := Unit ⊕ Own

abbrev osem : Own → SemLoc sig := fun o => if o.1 then .dma (recvS o.2) else .dma (sendS o.2)
abbrev csem : Kind → SemLoc sig := fun | .inl _ => .reg barS | .inr o => osem o

/-- Which of them a semaphore is. -/
def kindOf : SemLoc sig → Option Kind
  | .reg q => if q = barS then some (.inl ()) else none
  | .dma q =>
    if h : 3 ≤ q.val ∧ q.val < 35 then some (.inr (false, ⟨q.val - 3, by omega⟩))
    else if h : 35 ≤ q.val ∧ q.val < 67 then some (.inr (true, ⟨q.val - 35, by omega⟩)) else none

theorem kindOf_csem : ∀ k : Kind, kindOf (csem k) = some k := by decide +kernel

theorem csem_injective : Function.Injective csem := fun a b h =>
  Option.some.inj ((kindOf_csem a).symm.trans ((congrArg kindOf h).trans (kindOf_csem b)))

theorem osem_injective : Function.Injective osem := fun a b h =>
  Sum.inr.inj (csem_injective (a₁ := .inr a) (a₂ := .inr b) h)

abbrev kcell (c : Dev nD) (k : Kind) : GSem nD τ sig := ((c : Thread nD τ), csem k)
abbrev barCell (c : Dev nD) : GSem nD τ sig := ((c : Thread nD τ), .reg barS)
abbrev sendCell (s : Fin 32) (c : Dev nD) : GSem nD τ sig := ((c : Thread nD τ), .dma (sendS s))
abbrev recvCell (s : Fin 32) (c : Dev nD) : GSem nD τ sig := ((c : Thread nD τ), .dma (recvS s))

theorem kind_bar : kindOf (.reg barS) = some (.inl ()) := kindOf_csem (.inl ())
theorem kind_send (s : Fin 32) : kindOf (.dma (sendS s)) = some (.inr (false, s)) := kindOf_csem (.inr (false, s))
theorem kind_recv (s : Fin 32) : kindOf (.dma (recvS s)) = some (.inr (true, s)) := kindOf_csem (.inr (true, s))

/-- What one copy counts for. -/
def N : ℕ := (colV (0 : Dev nD)).view.dmaCredit
theorem N_pos : 0 < N := View.dmaCredit_pos _ (by decide)
theorem N_col (c : Dev nD) : (colV c).view.dmaCredit = N := rfl
theorem N_row (c : Dev nD) (s : Fin 32) : (rowV c s).view.dmaCredit = N := rfl

/-! ## Contents -/

/-- The block of `x` that device `c` holds, staged; -/
def xstg (c : Dev nD) : (cc0_stg0_0 : Ref sig .tc).ty.Contents (Elt F) :=
  (win0_0.blk (0 : Fin 1)).view.read (Elt F) (m ((c : Thread nD τ).loc main_arg0))
/-- the copy of `w` it holds, staged. -/
def wstg (c : Dev nD) : (cc0_stg1_0 : Ref sig .tc).ty.Contents (Elt F) :=
  (win0_1.blk (0 : Fin 1)).view.read (Elt F) (m ((c : Thread nD τ).loc main_arg1))

/-- The device that column `j` of the gathered rows comes from, -/
def fromDev (i : S128x4096.Idx) : Dev nD := ⟨(i 1).val / 128, by have h : (i 1).val < 4096 := (i 1).isLt; show _ < 32; omega⟩
/-- and where in that device's block the entry lies that device `d` gathers at `i`. -/
def fromIdx (d : Dev nD) (i : S128x4096.Idx) : S4096x128.Idx := fun
  | 0 => ⟨d.val * 128 + (i 0).val, by have h : (i 0).val < 128 := (i 0).isLt; have h' : d.val < 32 := d.isLt; show _ < 4096; omega⟩
  | 1 => ⟨(i 1).val % 128, Nat.mod_lt _ (by decide)⟩

/-- The rows device `d` gathers: its 128 rows of the whole `x`. -/
def gathered (d : Dev nD) : (cc0_scratch0 : Ref sig .tc).ty.Contents (Elt F) := fun i => xstg m (fromDev i) (fromIdx d i)

/-- A column block's and a row block's elements. -/
abbrev colSet (c : Dev nD) : Finset S128x4096.Idx := (colV c).view.set
abbrev rowSet (c : Dev nD) (s : Fin 32) : Finset S4096x128.Idx := (rowV c s).view.set

theorem row_off (c : Dev nD) (s : Fin 32) : k0_off4 c (BitVec.ofNat 32 s.val) = ![128 * ((c.val + s.val) % 32), 0] := by
  revert c s; decide +kernel

theorem colSet_eq (c : Dev nD) : colSet c = (Rect.unit (s := S128x4096) (k0_off3 c) S128x128.size (k0_off3_inb c)).set :=
  View.set_slice_whole _ _
theorem rowSet_eq (c : Dev nD) (s : Fin 32) :
    rowSet c s = (Rect.unit (s := S4096x128) (k0_off4 c (BitVec.ofNat 32 s.val)) S128x128.size (row_inb c s)).set :=
  View.set_slice_whole _ _

/-- Column block `c` is the columns from `128 c` on, -/
theorem mem_colSet {c : Dev nD} {i : S128x4096.Idx} : i ∈ colSet c ↔ fromDev i = c := by
  rw [colSet_eq, Rect.mem_set_unit, k0_off3_eq, Fin.forall_fin_two, Fin.ext_iff]
  unfold fromDev
  have h0 : (i 0).val < 128 := (i 0).isLt
  show (0 ≤ (i 0).val ∧ (i 0).val < 0 + 128) ∧ (128 * c.val ≤ (i 1).val ∧ (i 1).val < 128 * c.val + 128) ↔ (i 1).val / 128 = c.val
  omega
/-- and the row block at offset `s` the rows of the device there. -/
theorem mem_rowSet {c : Dev nD} {s : Fin 32} {i : S4096x128.Idx} : i ∈ rowSet c s ↔ (i 0).val / 128 = (shift s c).val := by
  rw [rowSet_eq, Rect.mem_set_unit, row_off, Fin.forall_fin_two, shift_val]
  have h1 : (i 1).val < 128 := (i 1).isLt
  show (128 * ((c.val + s.val) % 32) ≤ (i 0).val ∧ (i 0).val < 128 * ((c.val + s.val) % 32) + 128) ∧ (0 ≤ (i 1).val ∧ (i 1).val < 0 + 128)
    ↔ (i 0).val / 128 = (c.val + s.val) % 32
  omega

theorem col_disjoint (c d : Dev nD) (h : c ≠ d) : Disjoint (colSet c) (colSet d) :=
  Finset.disjoint_left.mpr fun i hc hd => h ((mem_colSet.mp hc).symm.trans (mem_colSet.mp hd))
theorem col_cover : Finset.univ.biUnion colSet = Finset.univ :=
  Finset.eq_univ_of_forall fun i => Finset.mem_biUnion.mpr ⟨fromDev i, Finset.mem_univ _, mem_colSet.mpr rfl⟩
theorem row_disjoint (c : Dev nD) (s t : Fin 32) (h : s ≠ t) : Disjoint (rowSet c s) (rowSet c t) :=
  Finset.disjoint_left.mpr fun i hs ht =>
    h ((shift_bij c).1 (Fin.ext ((mem_rowSet.mp hs).symm.trans (mem_rowSet.mp ht))))
theorem row_cover (c : Dev nD) : Finset.univ.biUnion (rowSet c) = Finset.univ :=
  Finset.eq_univ_of_forall fun i => by
    obtain ⟨s, hs⟩ := (shift_bij c).2 ⟨(i 0).val / 128, by have : (i 0).val < 4096 := (i 0).isLt; show _ < 32; omega⟩
    exact Finset.mem_biUnion.mpr ⟨s, Finset.mem_univ _, mem_rowSet.mpr (congrArg Fin.val hs).symm⟩

omit [FloatOps F] in
/-- What a copy from `c` at offset `s` leaves in its columns of the peer's rows is what the peer gathers there. -/
theorem landed_eq (c : Dev nD) (s : Fin 32) (fd : (cc0_scratch0 : Ref sig .tc).ty.Contents (Elt F)) (i : S128x4096.Idx) (hi : i ∈ colSet c) :
    (colV c).view.write (Elt F) fd ((rowV c s).view.read (Elt F) (xstg m c)) Finset.univ i = gathered m (shift s c) i := by
  obtain ⟨x, -, rfl⟩ := Finset.mem_map.mp hi
  rw [View.write_emb_of_mem _ _ (Finset.mem_univ x), View.read_apply, cast_cast, cast_eq]
  have hd : fromDev ((colV c).view.emb x) = c := mem_colSet.mp hi
  unfold gathered
  rw [hd]
  refine congrArg (xstg m c) (funext fun a => Fin.ext ?_)
  have h0 : (x 0).val < 128 := (x 0).isLt
  have h1 : (x 1).val < 128 := (x 1).isLt
  fin_cases a
  · show k0_off4 c (BitVec.ofNat 32 s.val) 0 + 1 * (x 0).val = (shift s c).val * 128 + (k0_off3 c 0 + 1 * (x 0).val)
    rw [row_off, k0_off3_eq, shift_val]
    show 128 * ((c.val + s.val) % 32) + 1 * (x 0).val = (c.val + s.val) % 32 * 128 + (0 + 1 * (x 0).val)
    omega
  · show k0_off4 c (BitVec.ofNat 32 s.val) 1 + 1 * (x 1).val = (k0_off3 c 1 + 1 * (x 1).val) % 128
    rw [row_off, k0_off3_eq]
    show 0 + 1 * (x 1).val = (128 * c.val + 1 * (x 1).val) % 128
    omega

abbrev ownR (c : Dev nD) : Rect S128x4096 := Rect.unit (s := S128x4096) (k0_off2 c) S128x128.size (k0_off2_inb c)
abbrev srcR (c : Dev nD) : Rect S4096x128 := Rect.unit (s := S4096x128) (k0_off1 c) S128x128.size (k0_off1_inb c)

theorem own_set (c : Dev nD) : (gM.access (ownR c) : View sig .tc _ _ _).set = colSet c := by
  rw [colSet_eq]
  refine (View.set_slice_whole _ _).trans (Finset.ext fun i => ?_)
  rw [Rect.mem_set_unit, Rect.mem_set_unit, k0_off3_eq, k0_off2_eq]
  exact Iff.rfl

omit [FloatOps F] in
/-- What the device's own store leaves in its own columns likewise. -/
theorem own_eq (c : Dev nD) (fd : (cc0_scratch0 : Ref sig .tc).ty.Contents (Elt F)) (i : S128x4096.Idx) (hi : i ∈ colSet c) :
    (gM.access (ownR c) : View sig .tc _ _ _).write (Elt F) fd (xM.view.readAt (Elt F) (srcR c).toLoadRect (xstg m c)) Finset.univ i
      = gathered m c i := by
  have hi' := hi
  rw [← own_set] at hi'
  obtain ⟨x, -, rfl⟩ := Finset.mem_map.mp hi'
  rw [View.write_emb_of_mem _ _ (Finset.mem_univ x), View.readAt_rect, View.read_apply, cast_cast, cast_eq]
  have hd : fromDev ((gM.access (ownR c) : View sig .tc _ _ _).emb x) = c := mem_colSet.mp hi
  unfold gathered
  rw [hd]
  refine congrArg (xstg m c) (funext fun a => Fin.ext ?_)
  have h0 : (x 0).val < 128 := (x 0).isLt
  have h1 : (x 1).val < 128 := (x 1).isLt
  have e1 := congrFun (k0_off1_eq c)
  have e2 := congrFun (k0_off2_eq c)
  fin_cases a
  · show k0_off1 c 0 + 1 * (x 0).val = c.val * 128 + (k0_off2 c 0 + 1 * (x 0).val)
    rw [e1, e2]
    show 128 * c.val + 1 * (x 0).val = c.val * 128 + (0 + 1 * (x 0).val)
    omega
  · show k0_off1 c 1 + 1 * (x 1).val = (k0_off2 c 1 + 1 * (x 1).val) % 128
    rw [e1, e2]
    show 0 + 1 * (x 1).val = (128 * c.val + 1 * (x 1).val) % 128
    omega

/-! ## Points-to -/

/-- Column block `c` of device `d`'s gathered rows, at contents `f`; -/
def colPts (d c : Dev nD) (f : (cc0_scratch0 : Ref sig .tc).ty.Contents (Elt F)) : sProp 𝕄 :=
  (colV c).view.loc (d : Thread nD τ) ↦[(colV c).view.set]{fullShare} f
/-- the row block at offset `s` of device `c`'s staged `x`. -/
def rowPts (c : Dev nD) (s : Fin 32) : sProp 𝕄 :=
  (rowV c s).view.loc (c : Thread nD τ) ↦[(rowV c s).view.set]{fullShare} xstg m c

omit [FloatOps F] in
instance colPts_storable (d c : Dev nD) (f) : BI.Storable (upEmb : UEmb _ 𝕄) (colPts (F := F) d c f) := by unfold colPts; infer_instance
omit [FloatOps F] in
instance rowPts_storable (c : Dev nD) (s : Fin 32) : BI.Storable (upEmb : UEmb _ 𝕄) (rowPts (F := F) m c s) := by unfold rowPts; infer_instance

omit [FloatOps F] in
theorem colPts_congr (d c : Dev nD) {f g : (cc0_scratch0 : Ref sig .tc).ty.Contents (Elt F)} (h : ∀ i ∈ colSet c, f i = g i) :
    (colPts d c f : sProp 𝕄) = colPts d c g := pointsTo_congr h

omit [FloatOps F] in
/-- The gathered rows whole are their 32 column blocks, -/
theorem cols_split (d : Dev nD) (f : (cc0_scratch0 : Ref sig .tc).ty.Contents (Elt F)) :
    ((((d : Thread nD τ).loc cc0_scratch0) ↦{fullShare} f) : sProp 𝕄) = bigSep Finset.univ fun s : Fin 32 => colPts d (shift s d) f :=
  ((pointsTo_biUnion (ℓ := (d : Thread nD τ).loc cc0_scratch0) (f := f) (q := fullShare) Finset.univ colSet fun b _ b' _ h => col_disjoint b b' h).symm.trans
    (by rw [col_cover])).symm.trans (bigSep_univ_equiv (around d) fun c => colPts d c f)
omit [FloatOps F] in
/-- and the staged block of `x` its 32 row blocks. -/
theorem rows_split (c : Dev nD) :
    ((((c : Thread nD τ).loc cc0_stg0_0) ↦{fullShare} xstg m c) : sProp 𝕄) = bigSep Finset.univ fun s : Fin 32 => rowPts m c s :=
  ((pointsTo_biUnion (ℓ := (c : Thread nD τ).loc cc0_stg0_0) (f := xstg m c) (q := fullShare) Finset.univ (rowSet c) fun b _ b' _ h => row_disjoint c b b' h).symm.trans
    (by rw [row_cover])).symm

/-! ## The schedule -/

/-- What the signal named `t` brings to device `e`'s barrier: `e`'s columns of the rows of the device at offset `t`. -/
def barPay (e : Dev nD) (t : Fin 32) : sProp 𝕄 := iprop(∃ f, colPts (shift t e) e f)
/-- What the copy at offset `s` brings to device `e`: the sender's columns, filled. -/
def recvPay (e : Dev nD) (s : Fin 32) : sProp 𝕄 := colPts e (shift (-s) e) (gathered m e)

/-- The duties of a cell's one round, -/
def duty : Option Kind → Finset (Fin 32)
  | some (.inl _) => Finset.univ.erase 0
  | some (.inr (_, s)) => if s = 0 then ∅ else {0}
  | none => ∅
/-- what each of them counts for, -/
def amt : Option Kind → ℕ
  | some (.inl _) => 1
  | _ => N
/-- and what it brings. -/
def pay (e : Dev nD) (d : Fin 32) : Option Kind → sProp 𝕄
  | some (.inl _) => barPay e d
  | some (.inr (false, s)) => rowPts m e s
  | some (.inr (true, s)) => recvPay m e s
  | none => iprop(emp)

/-- One round: 31 signals at a barrier cell, one copy's end at a send or receive cell of a positive offset. -/
def sched : Rounds.Schedule (GSem nD τ sig) (Fin 32) 𝕄 where
  duties g r := if r = 0 ∧ g.1.2 = .tc then duty (kindOf g.2) else ∅
  unitless _ := False
  amount g _ _ := amt (kindOf g.2)
  payload g _ d := pay m g.1.1 d (kindOf g.2)
  amount_pos g _ _ _ := by
    show 0 < amt (kindOf g.2)
    unfold amt; split
    · exact Nat.one_pos
    · exact N_pos

instance sched_storable (g : GSem nD τ sig) (r : ℕ) (d : Fin 32) :
    BI.Storable (upEmb : UEmb _ 𝕄) ((sched (F := F) m).payload g r d) := by
  show BI.Storable upEmb (pay m g.1.1 d (kindOf g.2))
  unfold pay
  split <;> first | infer_instance | (unfold barPay; infer_instance) | (unfold recvPay; infer_instance)

section Sched
variable (c : Dev nD)

omit [FloatOps F] in
theorem duties_now (sm : SemLoc sig) : (sched (F := F) m).duties ((c : Thread nD τ), sm) 0 = duty (kindOf sm) := by
  dsimp only [sched]; exact if_pos ⟨rfl, rfl⟩
omit [FloatOps F] in
theorem duties_later (g : GSem nD τ sig) : ∀ r, 1 ≤ r → (sched (F := F) m).duties g r = ∅ :=
  fun r hr => by dsimp only [sched]; exact if_neg fun h => by have := h.1; omega

omit [FloatOps F] in
theorem duties_bar : (sched (F := F) m).duties (barCell c) 0 = Finset.univ.erase 0 := by rw [duties_now, kind_bar]; rfl
omit [FloatOps F] in
theorem duties_send {s : Fin 32} (h : s ≠ 0) : (sched (F := F) m).duties (sendCell s c) 0 = {0} := by
  rw [duties_now, kind_send]; unfold duty; exact if_neg h
omit [FloatOps F] in
theorem duties_recv {s : Fin 32} (h : s ≠ 0) : (sched (F := F) m).duties (recvCell s c) 0 = {0} := by
  rw [duties_now, kind_recv]; unfold duty; exact if_neg h
omit [FloatOps F] in
/-- The cells at offset 0 have no duty at all. -/
theorem duties_none (b : Bool) (r : ℕ) : (sched (F := F) m).duties (kcell c (.inr (b, 0))) r = ∅ := by
  rcases Nat.eq_zero_or_pos r with rfl | h
  · rw [duties_now, kindOf_csem]; unfold duty; exact if_pos rfl
  · exact duties_later m _ r h

omit [FloatOps F] in
theorem amount_bar (d : Fin 32) : (sched (F := F) m).amount (barCell c) 0 d = 1 := by show amt (kindOf (.reg barS)) = 1; rw [kind_bar]; rfl
omit [FloatOps F] in
theorem amount_send (s d : Fin 32) : (sched (F := F) m).amount (sendCell s c) 0 d = N := by show amt (kindOf (.dma (sendS s))) = N; rw [kind_send]; rfl
omit [FloatOps F] in
theorem amount_recv (s d : Fin 32) : (sched (F := F) m).amount (recvCell s c) 0 d = N := by show amt (kindOf (.dma (recvS s))) = N; rw [kind_recv]; rfl

omit [FloatOps F] in
theorem expect_bar : (sched (F := F) m).expect (barCell c) 0 = 31 := by
  unfold Schedule.expect Schedule.amountOf
  rw [duties_bar, Finset.sum_congr rfl fun d _ => amount_bar m c d, Finset.sum_const]; rfl
omit [FloatOps F] in
theorem expect_send {s : Fin 32} (h : s ≠ 0) : (sched (F := F) m).expect (sendCell s c) 0 = N := by
  unfold Schedule.expect Schedule.amountOf; rw [duties_send m c h, Finset.sum_singleton, amount_send]
omit [FloatOps F] in
theorem expect_recv {s : Fin 32} (h : s ≠ 0) : (sched (F := F) m).expect (recvCell s c) 0 = N := by
  unfold Schedule.expect Schedule.amountOf; rw [duties_recv m c h, Finset.sum_singleton, amount_recv]

omit [FloatOps F] in
theorem payload_bar (d : Fin 32) : (sched (F := F) m).payload (barCell c) 0 d = barPay c d := by
  show pay m c d (kindOf (.reg barS)) = _; rw [kind_bar]; rfl
omit [FloatOps F] in
theorem payload_send (s d : Fin 32) : (sched (F := F) m).payload (sendCell s c) 0 d = rowPts m c s := by
  show pay m c d (kindOf (.dma (sendS s))) = _; rw [kind_send]; rfl
omit [FloatOps F] in
theorem payload_recv (s d : Fin 32) : (sched (F := F) m).payload (recvCell s c) 0 d = recvPay m c s := by
  show pay m c d (kindOf (.dma (recvS s))) = _; rw [kind_recv]; rfl

omit [FloatOps F] in
theorem rest_bar : bigSep ((sched (F := F) m).duties (barCell c) 0 \ ∅) (fun d => (sched (F := F) m).payload (barCell c) 0 d)
    = bigSep (Finset.univ.erase 0) fun t => barPay c t := by
  rw [Finset.sdiff_empty, duties_bar]; exact bigSep_congr fun d _ => payload_bar m c d
omit [FloatOps F] in
theorem rest_send {s : Fin 32} (h : s ≠ 0) :
    bigSep ((sched (F := F) m).duties (sendCell s c) 0 \ ∅) (fun d => (sched (F := F) m).payload (sendCell s c) 0 d) = rowPts m c s := by
  rw [Finset.sdiff_empty, duties_send m c h, bigSep_singleton, payload_send]
omit [FloatOps F] in
theorem rest_recv {s : Fin 32} (h : s ≠ 0) :
    bigSep ((sched (F := F) m).duties (recvCell s c) 0 \ ∅) (fun d => (sched (F := F) m).payload (recvCell s c) 0 d) = recvPay m c s := by
  rw [Finset.sdiff_empty, duties_recv m c h, bigSep_singleton, payload_recv]

end Sched

end Cert.A2A

end
-- ==== Proof.Loops.lean ====
/-
# The three loops of the body, each by induction over its offsets
-/
module

public import proofs.«01_k».proof.Proof.Proto

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × Kind → ℕ)

/-- Running a program on device `c`'s core. -/
abbrev run (c : Dev nD) (p : Prog (Eff F) PUnit) (Q : PUnit → sProp 𝕄) : sProp 𝕄 :=
  wp frame (wpE (defs₀ (F := F)) 𝒱₀ (c : Thread nD τ) none) Set.univ p Q

/-! ## What everybody knows -/

/-- Every cell of every device keeps the protocol, and has reached its round 0. -/
def records : sProp 𝕄 :=
  iprop((bigSep Finset.univ fun ck : Dev nD × Kind => cellInv ER (sched m) (K ck) (kcell ck.1 ck.2))
    ∗ bigSep Finset.univ fun ck : Dev nD × Kind => reached ER (kcell ck.1 ck.2) 0)

instance records_persistent : BI.Persistent (records m K) := by unfold records; infer_instance

omit [FloatOps F] in
theorem record_inv (c : Dev nD) (k : Kind) : records m K ⊢ cellInv ER (sched m) (K (c, k)) (kcell c k) := by
  have h : (bigSep Finset.univ fun ck : Dev nD × Kind => (cellInv ER (sched m) (K ck) (kcell ck.1 ck.2) : sProp 𝕄))
      ⊢ cellInv ER (sched m) (K (c, k)) (kcell c k) := bigSep_elim (Finset.mem_univ (c, k))
  unfold records
  iintro ⟨H, -⟩
  iapply h
  iexact H

omit [FloatOps F] in
theorem record_reached (c : Dev nD) (k : Kind) : records m K ⊢ reached ER (kcell c k) 0 := by
  have h : (bigSep Finset.univ fun ck : Dev nD × Kind => (reached ER (kcell ck.1 ck.2) 0 : sProp 𝕄)) ⊢ reached ER (kcell c k) 0 :=
    bigSep_elim (Finset.mem_univ (c, k))
  unfold records
  iintro ⟨-, H⟩
  iapply h
  iexact H

omit [FloatOps F] in
/-- A tally summed over a list's offsets, the first one taken out. -/
theorem sum_first {s : Fin 32} {l : List (Fin 32)} (h : s ∉ l) (O : CellTallies nD τ sig Unit) (f : Fin 32 → CellTallies nD τ sig Unit) :
    O + ∑ t ∈ (s :: l).toFinset, f t = (O + ∑ t ∈ l.toFinset, f t) + f s := by
  rw [List.toFinset_cons, Finset.sum_insert (by rwa [List.mem_toFinset]), add_comm (f s), add_assoc]

theorem each_cons {α : Type} (s : Fin 32) (l : List (Fin 32)) (p : Fin 32 → Prog (Eff F) α → Prog (Eff F) α) (k : Prog (Eff F) α) :
    each (s :: l) p k = p s (each l p k) := rfl

omit [FloatOps F] in
theorem sep_first {s : Fin 32} {l : List (Fin 32)} (h : s ∉ l) (Φ : Fin 32 → sProp 𝕄) :
    bigSep (s :: l).toFinset Φ = iprop(Φ s ∗ bigSep l.toFinset Φ) := by
  rw [List.toFinset_cons]; exact bigSep_insert (by rwa [List.mem_toFinset])

theorem neg_ne {s : Fin 32} : s ≠ 0 → -s ≠ 0 := by revert s; decide

/-! ## The signals -/

/-- What the signal at offset `s` uses: the duty's token and the columns it hands over. -/
def signalUse (c : Dev nD) (s : Fin 32) : sProp 𝕄 :=
  iprop(dutyTok ER (barCell (shift s c)) 0 (-s) ∗ ∃ f, colPts c (shift s c) f)

theorem signals (c : Dev nD) (O : CellTallies nD τ sig Unit) (W : Waits sig Unit) (k : Prog (Eff F) PUnit) (Q : PUnit → sProp 𝕄) :
    ∀ l : List (Fin 32), l.Nodup → 0 ∉ l →
    iprop(records m K ∗ owes (c : Thread nD τ) (O + ∑ s ∈ l.toFinset, tallyAt (barCell (shift s c)) () 1) W ∗ bigSep l.toFinset (signalUse (F := F) c))
      ⊢ iprop((owes (c : Thread nD τ) O W -∗ run c k Q) -∗ run c (each l (signalStep c) k) Q)
  | [], _, _ => by
    iintro ⟨-, HO, -⟩ Hk
    iapply Hk
    rw [List.toFinset_nil, Finset.sum_empty, add_zero]
    iexact HO
  | s :: l, hn, h0 => by
    have hs : s ∉ l := (List.nodup_cons.mp hn).1
    have hz : s ≠ 0 := fun h => h0 (h ▸ List.mem_cons_self)
    rw [sep_first hs, sum_first hs, each_cons]
    unfold signalUse signalStep
    iintro ⟨#HR, HO, ⟨Ht, Hc⟩, Hl⟩ Hk
    rw [peer_eq c s]
    iapply (Rounds.wp_signal 𝒱₀ ER (sched m) (c : Thread nD τ) none (dst := (shift s c : Thread nD τ)) (κ := K (shift s c, .inl ()))
        (d := -s) (by rw [duties_bar]; exact Finset.mem_erase.mpr ⟨neg_ne hz, Finset.mem_univ _⟩)
        ((amount_bar m (shift s c) (-s)).trans (by decide)) () (O + ∑ t ∈ l.toFinset, tallyAt (barCell (shift t c)) () 1) rfl)
      $$ [HO Ht Hc]
    · isplitr; · iapply (record_inv m K (shift s c) (.inl ())); iexact HR
      isplitl [HO]; · iexact HO
      isplitl [Ht]; · iexact Ht
      isplitl [Hc]
      · rw [payload_bar]; unfold barPay; rw [shift_neg_shift]; iexact Hc
      iapply (record_reached m K (shift s c) (.inl ())); iexact HR
    iintro HO
    iapply (signals c O W k Q l (List.nodup_cons.mp hn).2 (fun h => h0 (List.mem_cons_of_mem _ h))) $$ [HO Hl]
    · isplitr; · iexact HR
      isplitl [HO]; · iexact HO
      unfold signalUse; iexact Hl
    iexact Hk

/-! ## The copies -/

/-- What the copy at offset `s` uses: both its duties' tokens, the rows it reads and the peer's columns it fills. -/
def sendUse (c : Dev nD) (s : Fin 32) : sProp 𝕄 :=
  iprop(dutyTok ER (sendCell s c) 0 0 ∗ dutyTok ER (recvCell s (shift s c)) 0 0 ∗ rowPts m c s ∗ ∃ f, colPts (shift s c) c f)

/-- One copy, addressed to `n`, which is the device at offset `s`. -/
theorem send_one (c n : Dev nD) (s : Fin 32) (hn : n = shift s c) (hz : s ≠ 0)
    {hsc : (colV c : Memref sig (Dev.tc n : Thread nD τ).2.kind .vmem S128x128 .f32).view.ref.isScScratch = false}
    {hsrc : (rowV c s).view.WordExact} {hdst : (colV c).view.WordExact}
    {hsem : DmaTarget.Typed .vmem (.dma (recvS s)) (.remote (Dev.tc n : Thread nD τ) (colV c) (.dma (sendS s)) hsc)}
    {k : PUnit → Prog (Eff F) PUnit} {Q : PUnit → sProp 𝕄} (O : CellTallies nD τ sig Unit) (W : Waits sig Unit) :
    iprop(records m K ∗ owes (c : Thread nD τ) (O + tallyAt (recvCell s (shift s c)) () N) W ∗ sendUse m c s)
      ⊢ iprop(((cred (tallyAt (sendCell s c) () N) ∗ owes (c : Thread nD τ) O W) -∗ run c (k ⟨⟩) Q)
          -∗ run c (.op (.enqueueDma (rowV c s) (.remote (Dev.tc n : Thread nD τ) (colV c) (.dma (sendS s)) hsc) (.dma (recvS s)) hsrc hdst hsem) k) Q) := by
  subst hn
  unfold sendUse
  iintro ⟨#HR, HO, HtS, HtV, Hrow, ⟨%fd, Hcol⟩⟩
  unfold rowPts colPts
  iapply (Rounds.wp_send_pointsTo 𝒱₀ ER (sched m) (c : Thread nD τ) none (κ₁ := K (c, .inr (false, s))) (κ₂ := K (shift s c, .inr (true, s)))
    (r₁ := 0) (r₂ := 0) (d₁ := 0) (d₂ := 0) (fd := fd)
    (by rw [duties_send m c hz]; exact Finset.mem_singleton_self _) (by rw [duties_recv m _ hz]; exact Finset.mem_singleton_self _)
    () () N (by exact N_col c) (amount_send m c s 0) (amount_recv m (shift s c) s 0) O rfl (W := W)
    (by rw [payload_send]; exact BI.Entails.refl _)
    (by
      rw [payload_recv]; unfold recvPay; rw [shift_neg_shift]
      exact Entails.of_eq (colPts_congr (shift s c) c (landed_eq m c s fd))))
  isplitr; · iapply (record_inv m K c (.inr (false, s))); iexact HR
  isplitr; · iapply (record_inv m K (shift s c) (.inr (true, s))); iexact HR
  isplitl [Hrow]; · iexact Hrow
  isplitl [Hcol]; · iexact Hcol
  isplitl [HO]; · iexact HO
  isplitl [HtS]; · iexact HtS
  isplitr; · iapply (record_reached m K c (.inr (false, s))); iexact HR
  isplitl [HtV]; · iexact HtV
  iapply (record_reached m K (shift s c) (.inr (true, s))); iexact HR

theorem sends (c : Dev nD) (O : CellTallies nD τ sig Unit) (W : Waits sig Unit) (k : Prog (Eff F) PUnit) (Q : PUnit → sProp 𝕄) :
    ∀ l : List (Fin 32), l.Nodup → 0 ∉ l →
    iprop(records m K ∗ owes (c : Thread nD τ) (O + ∑ s ∈ l.toFinset, tallyAt (recvCell s (shift s c)) () N) W ∗ bigSep l.toFinset (sendUse m c))
      ⊢ iprop(((bigSep l.toFinset fun s => cred (tallyAt (sendCell s c) () N)) ∗ owes (c : Thread nD τ) O W -∗ run c k Q)
          -∗ run c (each l (sendStep c) k) Q)
  | [], _, _ => by
    iintro ⟨-, HO, -⟩ Hk
    iapply Hk
    rw [List.toFinset_nil, Finset.sum_empty, add_zero, bigSep_empty]
    isplitr; · iempintro
    iexact HO
  | s :: l, hn, h0 => by
    have hs : s ∉ l := (List.nodup_cons.mp hn).1
    have hz : s ≠ 0 := fun h => h0 (h ▸ List.mem_cons_self)
    rw [sep_first hs, sep_first hs, sum_first hs, each_cons]
    conv_rhs => unfold sendStep
    iintro ⟨#HR, HO, Hs, Hl⟩ Hk
    iapply (send_one m K c (peer c s) s (peer_eq c s) hz (O + ∑ t ∈ l.toFinset, tallyAt (recvCell t (shift t c)) () N) W) $$ [HO Hs]
    · isplitr; · iexact HR
      isplitl [HO] <;> iassumption
    iintro ⟨Hc, HO⟩
    iapply (sends c O W k Q l (List.nodup_cons.mp hn).2 (fun h => h0 (List.mem_cons_of_mem _ h))) $$ [HO Hl]
    · isplitr; · iexact HR
      isplitl [HO] <;> iassumption
    iintro ⟨Hcs, HO⟩
    iapply Hk
    isplitr [HO]
    · isplitl [Hc] <;> iassumption
    iexact HO

/-! ## The waits -/

/-- What the waits at offset `s` use: the copies' credits and the device's positions at its two cells; -/
def waitUse (c : Dev nD) (s : Fin 32) : sProp 𝕄 :=
  iprop(cred (tallyAt (sendCell s c) () N) ∗ cred (tallyAt (recvCell s c) () N) ∗ atPos ER (sendCell s c) 0 ∅ 0 ∗ atPos ER (recvCell s c) 0 ∅ 0)
/-- what they give: the rows read, the columns received, and the positions past the round. -/
def waitGive (c : Dev nD) (s : Fin 32) : sProp 𝕄 :=
  iprop(rowPts m c s ∗ recvPay m c s ∗ atPos ER (sendCell s c) (0 + 1) ∅ 0 ∗ atPos ER (recvCell s c) (0 + 1) ∅ 0)

theorem waitsLoop (c : Dev nD) (k : Prog (Eff F) PUnit) (Q : PUnit → sProp 𝕄) :
    ∀ (l : List (Fin 32)) (W : Waits sig Unit), l.Nodup → 0 ∉ l →
    iprop(records m K ∗ owes (c : Thread nD τ) 0 W ∗ bigSep l.toFinset (waitUse (F := F) c))
      ⊢ iprop((((∃ W', owes (c : Thread nD τ) 0 W') ∗ bigSep l.toFinset (waitGive m c)) -∗ run c k Q)
          -∗ run c (each l (waitStep c) k) Q)
  | [], W, _, _ => by
    iintro ⟨-, HO, -⟩ Hk
    iapply Hk
    rw [List.toFinset_nil, bigSep_empty]
    isplitl; · iexists W; iexact HO
    iempintro
  | s :: l, W, hn, h0 => by
    have hs : s ∉ l := (List.nodup_cons.mp hn).1
    have hz : s ≠ 0 := fun h => h0 (h ▸ List.mem_cons_self)
    rw [sep_first hs, sep_first hs]
    rw [each_cons]
    unfold waitUse waitStep
    iintro ⟨#HR, HO, ⟨HcS, HcV, HaS, HaV⟩, Hl⟩ Hk
    iapply (Rounds.wp_wait_rest_token 𝒱₀ ER (sched m) (c : Thread nD τ) none (κ := K (c, .inr (false, s)))
      (wpE_waitDma2_eq 𝒱₀ (c : Thread nD τ) none Set.univ) (Set.mem_univ _) () (O := 0) (W := W) (R := 0) (m := 0) (T := ∅)
      (by rw [Nat.zero_add, expect_send m c hz]; exact N_row c s)) $$ [HcS HO HaS]
    · isplitr; · iapply (record_inv m K c (.inr (false, s))); iexact HR
      isplitl [HcS]; · iexact HcS
      isplitl [HO]; · iexact HO
      isplitr; · rw [MayWait_zero]; iempintro
      iexact HaS
    iintro ⟨HO, HaS, -, Hpay⟩
    ihave Hrow := (Entails.of_eq (rest_send m c hz)) $$ Hpay
    iapply (Rounds.wp_wait_rest_token 𝒱₀ ER (sched m) (c : Thread nD τ) none (κ := K (c, .inr (true, s)))
      (wpE_waitDma2_eq 𝒱₀ (c : Thread nD τ) none Set.univ) (Set.mem_univ _) () (O := 0)
      (W := insert (SemLoc.dma (sendS s), ()) W) (R := 0) (m := 0) (T := ∅)
      (by rw [Nat.zero_add, expect_recv m c hz]; exact N_col c)) $$ [HcV HO HaV]
    · isplitr; · iapply (record_inv m K c (.inr (true, s))); iexact HR
      isplitl [HcV]; · iexact HcV
      isplitl [HO]; · iexact HO
      isplitr; · rw [MayWait_zero]; iempintro
      iexact HaV
    iintro ⟨HO, HaV, -, Hpay⟩
    ihave Hcol := (Entails.of_eq (rest_recv m c hz)) $$ Hpay
    iapply (waitsLoop c k Q l _ (List.nodup_cons.mp hn).2 (fun h => h0 (List.mem_cons_of_mem _ h))) $$ [HO Hl]
    · isplitr; · iexact HR
      isplitl [HO]; · iexact HO
      unfold waitUse; iexact Hl
    iintro ⟨HO, Hls⟩
    iapply Hk
    isplitl [HO]; · iexact HO
    isplitr [Hls]
    · unfold waitGive
      isplitl [Hrow]; · iexact Hrow
      isplitl [Hcol]; · iexact Hcol
      isplitl [HaS] <;> iassumption
    iexact Hls

end Cert.A2A

end
-- ==== Proof.Body.lean ====
/-
# The body on one device, from what the launch deals it to what it gives back
-/
module

public import proofs.«01_k».proof.Proof.Loops
public import Idealize.ShloMosaic.Lib.Pipeline.Value

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Kind → ℕ)

/-- The offsets of the other devices. -/
abbrev others : Finset (Fin 32) := Finset.univ.erase 0

/-! ## What a device owes, and the order of the waits -/

/-- The credits of the copies it has to send, -/
def owedCopies (c : Dev nD) : CellTallies nD τ sig Unit := ∑ s ∈ others, tallyAt (recvCell s (shift s c)) () N
/-- and with them the signals. -/
def owed₀ (c : Dev nD) : CellTallies nD τ sig Unit := owedCopies c + ∑ s ∈ others, tallyAt (barCell (shift s c)) () 1

def L (g : GSem nD τ sig) : Finset Unit := if g.1.2 = .tc then {()} else ∅
/-- Barrier cells come before receive cells, and everything else before both. -/
def level : Option Kind → ℕ
  | some (.inl _) => 1
  | some (.inr (true, _)) => 2
  | _ => 0
def lv (g : GSem nD τ sig) (_ : Unit) : ℕ := level (kindOf g.2)

theorem L_of_ne (g : GSem nD τ sig) (h : g.1.2 ≠ .tc) : L g = ∅ := if_neg h
theorem L_tc (c : Dev nD) (sm : SemLoc sig) : () ∈ L ((c : Thread nD τ), sm) := by unfold L; rw [if_pos rfl]; exact Finset.mem_singleton_self _
theorem lv_bar (c : Dev nD) (u : Unit) : lv (barCell c) u = 1 := by unfold lv; rw [kind_bar]; rfl
theorem lv_recv (s : Fin 32) (c : Dev nD) (u : Unit) : lv (recvCell s c) u = 2 := by unfold lv; rw [kind_recv]; rfl

/-- A sum of tallies at one cell, read off. -/
theorem sum_tally_apply (S : Finset (Fin 32)) (f : Fin 32 → GSem nD τ sig) (n : ℕ) (g : GSem nD τ sig) (u : Unit) :
    (∑ s ∈ S, (tallyAt (f s) () n : CellTallies nD τ sig Unit)) g u = ∑ s ∈ S, if g = f s then n else 0 := by
  rw [Finset.sum_apply, Finsupp.finset_sum_apply]
  refine Finset.sum_congr rfl fun s _ => ?_
  rw [tallyAt_apply]
  simp

theorem owedCopies_pos {c : Dev nD} {g : GSem nD τ sig} {u : Unit} (h : 0 < owedCopies c g u) : ∃ s, g = recvCell s (shift s c) := by
  unfold owedCopies at h
  rw [sum_tally_apply] at h
  obtain ⟨s, -, hs⟩ := Finset.exists_ne_zero_of_sum_ne_zero h.ne'
  exact ⟨s, by by_contra hn; exact hs (if_neg hn)⟩

theorem owed₀_pos {c : Dev nD} {g : GSem nD τ sig} {u : Unit} (h : 0 < owed₀ c g u) :
    (∃ s, g = recvCell s (shift s c)) ∨ ∃ s, g = barCell (shift s c) := by
  unfold owed₀ at h
  rw [Pi.add_apply, Finsupp.add_apply] at h
  rcases Nat.add_pos_iff_pos_or_pos.mp h with h | h
  · exact Or.inl (owedCopies_pos h)
  · rw [sum_tally_apply] at h
    obtain ⟨s, -, hs⟩ := Finset.exists_ne_zero_of_sum_ne_zero h.ne'
    exact Or.inr ⟨s, by by_contra hn; exact hs (if_neg hn)⟩

omit [FloatOps F] in
/-- The waits on the staging semaphores, before anything else is waited for. -/
theorem mayWait_stage (c : Dev nD) (q : DmaSem sig) (hq : kindOf (.dma q) = none) (O : CellTallies nD τ sig Unit) (hO : O = owed₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact L_tc _ _)
      (fun g u hg => by rcases owed₀_pos hg with ⟨s, rfl⟩ | ⟨s, rfl⟩ <;> exact L_tc _ _)
      (fun p hp => by rw [Finset.mem_singleton.mp hp]; show level (kindOf (.dma q)) ≤ 0; rw [hq]; exact le_rfl)
      (fun g u hg => by
        rcases owed₀_pos hg with ⟨s, rfl⟩ | ⟨s, rfl⟩
        · rw [lv_recv]; decide
        · rw [lv_bar]; decide)
  · rw [MayWait_zero]; iintro -; iempintro

omit [FloatOps F] in
/-- At its barrier wait a device owes copies only, which come later. -/
theorem mayWait_bar (c : Dev nD) : (levAts L lv : sProp 𝕄) ⊢ MayWait (c : Thread nD τ) (.reg barS) () (owedCopies c) :=
  MayOwe.of_cut (L := L) (lev := lv) 1 (fun p hp => by rw [Finset.mem_singleton.mp hp]; exact L_tc _ _)
    (fun g u hg => by obtain ⟨s, rfl⟩ := owedCopies_pos hg; exact L_tc _ _)
    (fun p hp => by rw [Finset.mem_singleton.mp hp]; exact (lv_bar c _).le)
    (fun g u hg => by obtain ⟨s, rfl⟩ := owedCopies_pos hg; rw [lv_recv]; decide)

/-! ## The device's start and end -/

/-- The tokens a device pays with: the signals', the copies'. -/
def payToks (c : Dev nD) : sProp 𝕄 :=
  iprop((bigSep others fun s => dutyTok ER (barCell (shift s c)) 0 (-s))
    ∗ bigSep others fun s => iprop(dutyTok ER (sendCell s c) 0 0 ∗ dutyTok ER (recvCell s (shift s c)) 0 0))

/-- Its own part of the protocol: its positions, those tokens. -/
def linear (c : Dev nD) : sProp 𝕄 :=
  iprop((bigSep Finset.univ fun k : Kind => atPos ER (kcell c k) 0 ∅ 0) ∗ payToks c)

def ghost (c : Dev nD) : sProp 𝕄 := iprop(records m K ∗ linear c)

/-- What its body starts from besides its buffers; -/
def start (c : Dev nD) : sProp 𝕄 :=
  iprop((∃ K, ghost m K c) ∗ cred (tallyAt (barCell c) () 31) ∗ (bigSep others fun s => cred (tallyAt (recvCell s c) () N)) ∗ levAts L lv)

abbrev gPts (c : Dev nD) (f : (cc0_scratch0 : Ref sig .tc).ty.Contents (Elt F)) : sProp 𝕄 := ((c : Thread nD τ).loc cc0_scratch0) ↦{fullShare} f
abbrev xPts (c : Dev nD) (f : (cc0_stg0_0 : Ref sig .tc).ty.Contents (Elt F)) : sProp 𝕄 := ((c : Thread nD τ).loc cc0_stg0_0) ↦{fullShare} f
abbrev wPts (c : Dev nD) (f : (cc0_stg1_0 : Ref sig .tc).ty.Contents (Elt F)) : sProp 𝕄 := ((c : Thread nD τ).loc cc0_stg1_0) ↦{fullShare} f
abbrev oPts (c : Dev nD) (f : (cc0_stg2_0 : Ref sig .tc).ty.Contents (Elt F)) : sProp 𝕄 := ((c : Thread nD τ).loc cc0_stg2_0) ↦{fullShare} f

/-- with the gathered rows' buffer at any contents. -/
def Φ₀ (c : Dev nD) : sProp 𝕄 := iprop(start m c ∗ ∃ f, gPts c f)
/-- What it ends with: the rows gathered, its cells at zero again. -/
def Φ₁ (c : Dev nD) : sProp 𝕄 :=
  iprop(gPts c (gathered m c) ∗ (bigSep Finset.univ fun o : Own => semVal (kcell c (.inr o)) 0) ∗ semVal (barCell c) 0)

/-- The result block of device `c`. -/
def outAt (c : Dev nD) : (cc0_stg2_0 : Ref sig .tc).ty.Contents (Elt F) := k0_pay1 (k0_pay3 (gathered m c) (wstg m c)) k0_pay4

/-! ## Regrouping -/

omit [FloatOps F] in
theorem own_split (Φ : Own → sProp 𝕄) :
    bigSep Finset.univ Φ = iprop((bigSep Finset.univ fun s => Φ (false, s)) ∗ bigSep Finset.univ fun s => Φ (true, s)) := by
  rw [bigSep_univ_prod]
  exact bigSep_univ_eq_bigSepL [false, true] (by decide) (by decide) _

omit [FloatOps F] in
theorem zero_split (Φ : Fin 32 → sProp 𝕄) : bigSep Finset.univ Φ = iprop(Φ 0 ∗ bigSep others Φ) := bigSep_univ_split 0

omit [FloatOps F] in
/-- One fact for each cell kind: the barrier's, and each numbered pair's, the pair of number 0 apart. -/
theorem kinds_split (Φ : Kind → sProp 𝕄) :
    bigSep Finset.univ Φ = iprop(Φ (.inl ()) ∗ (Φ (.inr (false, 0)) ∗ bigSep others fun s => Φ (.inr (false, s)))
      ∗ Φ (.inr (true, 0)) ∗ bigSep others fun s => Φ (.inr (true, s))) := by
  rw [bigSep_univ_sum, own_split, zero_split fun s => Φ (.inr (false, s)), zero_split fun s => Φ (.inr (true, s)), bigSep_univ_of_subsingleton ()]
  rfl

/-- Turning an offset round. -/
def negate : Fin 32 ≃ Fin 32 := ⟨fun s => -s, fun s => -s, by decide, by decide⟩

omit [FloatOps F] in
theorem cols_join (c : Dev nD) (f : (cc0_scratch0 : Ref sig .tc).ty.Contents (Elt F)) :
    (gPts c f : sProp 𝕄) = iprop(colPts c c f ∗ bigSep others fun s => colPts c (shift (-s) c) f) := by
  have h := (cols_split c f).trans (bigSep_univ_equiv negate fun s => (colPts c (shift s c) f : sProp 𝕄))
  refine h.trans ((zero_split fun s : Fin 32 => (colPts c (shift (-s) c) f : sProp 𝕄)).trans ?_)
  rw [show shift (-0) c = c from shift_zero c]

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A device is past all duties of a cell. -/
def past (c : Dev nD) (k : Kind) : sProp 𝕄 :=
  iprop(∃ R, ⌜∀ r, R ≤ r → (sched (F := F) m).duties (kcell c k) r = ∅⌝ ∗ atPos ER (kcell c k) R ∅ 0)

omit [FloatOps F] in
/-- Such a cell is given back at zero. -/
theorem close_one (c : Dev nD) (k : Kind) : iprop(records m K ∗ past m c k) ⊢ (|={Set.univ}=> semVal (kcell c k) 0 : sProp 𝕄) := by
  unfold past
  iintro ⟨#HR, ⟨%R, %h, Ha⟩⟩
  iapply (Rounds.cell_close ER (sched m) (Set.mem_univ (K (c, k))) (fun h => h) (R := R) h)
  isplitr; · iapply (record_inv m K c k); iexact HR
  iexact Ha

omit [FloatOps F] in
theorem close_own (c : Dev nD) :
    iprop(records m K ∗ bigSep Finset.univ fun o : Own => past m c (.inr o)) ⊢ (|={Set.univ}=> bigSep Finset.univ fun o : Own => semVal (kcell c (.inr o)) 0 : sProp 𝕄) :=
  (with_persistent fun o _ => close_one m K c (.inr o)).trans (bigSep_fupd _ _)

omit [FloatOps F] in
theorem past_zero (c : Dev nD) (b : Bool) : (atPos ER (kcell c (.inr (b, 0))) 0 ∅ 0 : sProp 𝕄) ⊢ past m c (.inr (b, 0)) := by
  unfold past
  iintro H; iexists 0
  isplitr; · ipureintro; exact fun r _ => duties_none m c b r
  iexact H

omit [FloatOps F] in
theorem past_one (c : Dev nD) (k : Kind) : (atPos ER (kcell c k) (0 + 1) ∅ 0 : sProp 𝕄) ⊢ past m c k := by
  unfold past
  iintro H; iexists (0 + 1)
  isplitr; · ipureintro; exact duties_later m _
  iexact H

/-! ## The accesses -/

omit [FloatOps F] in
theorem hz : (![0, 0] : Fin 2 → Nat) = fun _ => 0 := funext fun a => by fin_cases a <;> rfl

abbrev gR : Rect S128x4096 := Rect.unit (s := S128x4096) ![0, 0] S128x4096.size inb_S128x4096_S128x4096_0_0
abbrev wR : Rect S4096x2048 := Rect.unit (s := S4096x2048) ![0, 0] S4096x2048.size inb_S4096x2048_S4096x2048_0_0
abbrev oR : Rect S128x2048 := Rect.unit (s := S128x2048) ![0, 0] S128x2048.size inb_S128x2048_S128x2048_0_0

omit [FloatOps F] in
theorem read_g (f : (cc0_scratch0 : Ref sig .tc).ty.Contents (Elt F)) : gM.view.readAt (Elt F) gR.toLoadRect f = f :=
  Memref.readAt_unit_zero (Elt F) cc0_scratch0 hz _ f
omit [FloatOps F] in
theorem read_w (f : (cc0_stg1_0 : Ref sig .tc).ty.Contents (Elt F)) : wM.view.readAt (Elt F) wR.toLoadRect f = f :=
  Memref.readAt_unit_zero (Elt F) cc0_stg1_0 hz _ f
omit [FloatOps F] in
theorem write_o (f w : (cc0_stg2_0 : Ref sig .tc).ty.Contents (Elt F)) :
    (oM.access oR : View sig .tc _ _ _).write (Elt F) f w Finset.univ = w :=
  Memref.write_access_unit_zero_univ (Elt F) cc0_stg2_0 hz _ f w

omit [FloatOps F] in
theorem pay2_eq (v : Vec F S128x128 .f32) : k0_pay2 v = v := by
  unfold k0_pay2
  dsimp only
  rw [shapeCast_self, shapeCast_self]

omit [FloatOps F] in
theorem own_load_set (c : Dev nD) : gM.view.setOn (ownR c).toLoadRect.set ⊆ colSet c := by
  rw [← own_set]
  exact (View.set_slice gM.view (ownR c)).symm.subset

/-- The device's own block goes into its own columns. -/
theorem own_step (c : Dev nD) (f : (cc0_scratch0 : Ref sig .tc).ty.Contents (Elt F)) (k : Prog (Eff F) PUnit) (Q : PUnit → sProp 𝕄) :
    iprop(xPts c (xstg m c) ∗ colPts c c f)
      ⊢ iprop(((xPts c (xstg m c) ∗ colPts c c (gathered m c)) -∗ run c k Q) -∗ run c (ownStep c k) Q) := by
  unfold ownStep
  iintro ⟨Hx, Hc⟩ Hk
  iapply (wp_load 𝒱₀ (c : Thread nD τ) none Set.univ (m := xM) (Finset.subset_univ _)) $$ Hx; iintro Hx
  unfold colPts
  iapply (wp_load 𝒱₀ (c : Thread nD τ) none Set.univ (m := gM) (own_load_set c)) $$ Hc; iintro Hc
  iapply (wp_store 𝒱₀ (c : Thread nD τ) none Set.univ (m := gM) (r := ownR c) (Mk := Finset.univ) (own_set c).subset) $$ Hc; iintro Hc
  rw [pay2_eq]
  iapply Hk
  isplitl [Hx]; · iexact Hx
  iapply (Entails.of_eq (pointsTo_congr (own_eq m c f)))
  iexact Hc

/-- The product and the result's store. -/
theorem product_step (c : Dev nD) (f : (cc0_stg2_0 : Ref sig .tc).ty.Contents (Elt F)) (Q : PUnit → sProp 𝕄) :
    iprop(gPts c (gathered m c) ∗ wPts c (wstg m c) ∗ oPts c f)
      ⊢ iprop(((gPts c (gathered m c) ∗ wPts c (wstg m c) ∗ oPts c (outAt m c)) -∗ Q ⟨⟩) -∗ run c productStep Q) := by
  unfold productStep
  iintro ⟨Hg, Hw, Ho⟩ Hk
  iapply (wp_load 𝒱₀ (c : Thread nD τ) none Set.univ (m := gM) (Finset.subset_univ _)) $$ Hg; iintro Hg
  rw [read_g]
  iapply (wp_load 𝒱₀ (c : Thread nD τ) none Set.univ (m := wM) (Finset.subset_univ _)) $$ Hw; iintro Hw
  rw [read_w]
  iapply (wp_load 𝒱₀ (c : Thread nD τ) none Set.univ (m := oM) (Finset.subset_univ _)) $$ Ho; iintro Ho
  iapply (wp_store 𝒱₀ (c : Thread nD τ) none Set.univ (m := oM) (r := oR) (Mk := Finset.univ) (Finset.subset_univ _)) $$ Ho; iintro Ho
  rw [write_o, wp_ret]; imodintro
  iapply Hk
  isplitl [Hg]; · iexact Hg
  isplitl [Hw]; · iexact Hw
  iexact Ho

/-! ## The whole body -/

theorem body_run (c : Dev nD) (W : Waits sig Unit) (f0 : (cc0_scratch0 : Ref sig .tc).ty.Contents (Elt F))
    (f2 : (cc0_stg2_0 : Ref sig .tc).ty.Contents (Elt F)) (Q : PUnit → sProp 𝕄) :
    iprop((ghost m K c ∗ cred (tallyAt (barCell c) () 31) ∗ (bigSep others fun s => cred (tallyAt (recvCell s c) () N)) ∗ levAts L lv)
        ∗ gPts c f0 ∗ owes (c : Thread nD τ) (owed₀ c) W ∗ xPts c (xstg m c) ∗ wPts c (wstg m c) ∗ oPts c f2)
      ⊢ iprop(((Φ₁ m c ∗ (∃ W', owes (c : Thread nD τ) 0 W') ∗ xPts c (xstg m c) ∗ wPts c (wstg m c) ∗ oPts c (outAt m c)) -∗ Q ⟨⟩)
          -∗ run c (bodyOn c) Q) := by
  have hg : (gPts c f0 : sProp 𝕄) = _ := cols_split c f0
  have hx : (xPts c (xstg m c) : sProp 𝕄) = _ := (rows_split m c).trans (zero_split fun s => rowPts m c s)
  unfold bodyOn ghost linear payToks
  rw [hg, zero_split (fun s => colPts c (shift s c) f0), shift_zero,
    kinds_split (fun k => (atPos ER (kcell c k) 0 ∅ 0 : sProp 𝕄)), bigSep_sep' others (fun s => (dutyTok ER (sendCell s c) 0 0 : sProp 𝕄))]
  iintro ⟨⟨⟨#HR, ⟨HaB, ⟨HaS0, HaS⟩, HaV0, HaV⟩, HtB, HtS, HtV⟩, HcB, HcV, #Hlev⟩, ⟨Hown, Hcols⟩, HO, Hx, Hw, Ho⟩ Hk
  -- the signals
  iapply (signals m K c (owedCopies c) W _ Q offs offs_nodup (by decide)) $$ [HO HtB Hcols]
  · isplitr; · iexact HR
    rw [offs_toFinset]
    isplitl [HO]; · unfold owed₀; iexact HO
    unfold signalUse
    rw [bigSep_sep']
    isplitl [HtB]; · iexact HtB
    iapply (show (bigSep others fun s => (colPts c (shift s c) f0 : sProp 𝕄)) ⊢ bigSep others fun s => iprop(∃ f, colPts c (shift s c) f) from
      bigSep_mono fun s _ => show (colPts c (shift s c) f0 : sProp 𝕄) ⊢ iprop(∃ f, colPts c (shift s c) f) by iintro H; iexists f0; iexact H)
    iexact Hcols
  iintro HO
  -- the barrier
  iapply (Rounds.wp_wait_rest_token 𝒱₀ ER (sched m) (c : Thread nD τ) none (κ := K (c, .inl ()))
      (wpE_semWait_eq 𝒱₀ (c : Thread nD τ) none Set.univ) (Set.mem_univ _) () (O := owedCopies c) (W := W) (R := 0) (m := 0) (T := ∅)
      (by rw [expect_bar]; decide)) $$ [HcB HO HaB]
  · isplitr; · iapply (record_inv m K c (.inl ())); iexact HR
    isplitl [HcB]; · iexact HcB
    isplitl [HO]; · iexact HO
    isplitr; · iapply (mayWait_bar c); iexact Hlev
    iexact HaB
  iintro ⟨HO, HaB, -, Hpay⟩
  ihave Hpeer := (Entails.of_eq (rest_bar m c)) $$ Hpay
  -- the device's own block
  iapply (own_step m c f0) $$ [Hx Hown]
  · isplitl [Hx]; · iexact Hx
    iexact Hown
  iintro ⟨Hx, Hown⟩
  -- the copies
  ihave Hrows := (Entails.of_eq hx) $$ Hx
  icases Hrows with ⟨Hrow0, Hrows⟩
  iapply (sends m K c 0 _ _ Q offs offs_nodup (by decide)) $$ [HO HtS HtV Hrows Hpeer]
  · isplitr; · iexact HR
    rw [offs_toFinset, zero_add]
    isplitl [HO]; · unfold owedCopies; iexact HO
    unfold sendUse
    rw [bigSep_sep', bigSep_sep', bigSep_sep']
    isplitl [HtS]; · iexact HtS
    isplitl [HtV]; · iexact HtV
    isplitl [Hrows]; · iexact Hrows
    unfold barPay
    iexact Hpeer
  rw [offs_toFinset]
  iintro ⟨HcS, HO⟩
  -- the waits
  iapply (waitsLoop m K c _ Q offs _ offs_nodup (by decide)) $$ [HO HcS HcV HaS HaV]
  · isplitr; · iexact HR
    isplitl [HO]; · iexact HO
    rw [offs_toFinset]
    unfold waitUse
    rw [bigSep_sep', bigSep_sep', bigSep_sep']
    isplitl [HcS]; · iexact HcS
    isplitl [HcV]; · iexact HcV
    isplitl [HaS]; · iexact HaS
    iexact HaV
  rw [offs_toFinset]
  unfold waitGive
  rw [bigSep_sep', bigSep_sep', bigSep_sep']
  iintro ⟨HO, Hrows, Hcols, HaS, HaV⟩
  -- every cell is past its duties
  imod (close_one m K c (.inl ())) $$ [HaB] with HzB
  · isplitr; · iexact HR
    iapply (past_one m c (.inl ())); iexact HaB
  imod (close_own m K c) $$ [HaS0 HaS HaV0 HaV] with Hz
  · isplitr; · iexact HR
    rw [own_split, zero_split (fun s => past m c (.inr (false, s))), zero_split (fun s => past m c (.inr (true, s)))]
    isplitl [HaS0 HaS]
    · isplitl [HaS0]; · iapply (past_zero m c false); iexact HaS0
      iapply (show (bigSep others fun s => (atPos ER (kcell c (.inr (false, s))) (0 + 1) ∅ 0 : sProp 𝕄)) ⊢ bigSep others fun s => past m c (.inr (false, s)) from
        bigSep_mono fun s _ => past_one m c _)
      iexact HaS
    · isplitl [HaV0]; · iapply (past_zero m c true); iexact HaV0
      iapply (show (bigSep others fun s => (atPos ER (kcell c (.inr (true, s))) (0 + 1) ∅ 0 : sProp 𝕄)) ⊢ bigSep others fun s => past m c (.inr (true, s)) from
        bigSep_mono fun s _ => past_one m c _)
      iexact HaV
  -- the rows whole again
  ihave Hg := (Entails.of_eq (cols_join c (gathered m c)).symm) $$ [Hown Hcols]
  · isplitl [Hown]; · iexact Hown
    unfold recvPay; iexact Hcols
  iapply (product_step m c f2) $$ [Hg Hw Ho]
  · isplitl [Hg]; · iexact Hg
    isplitl [Hw] <;> iassumption
  iintro ⟨Hg, Hw, Ho⟩
  iapply Hk
  unfold Φ₁
  isplitl [Hg Hz HzB]
  · isplitl [Hg]; · iexact Hg
    isplitl [Hz] <;> iassumption
  isplitl [HO]; · iexact HO
  isplitl [Hrow0 Hrows]
  · rw [hx]
    isplitl [Hrow0] <;> iassumption
  isplitl [Hw] <;> iassumption

end Cert.A2A

end
-- ==== Proof.Launch.lean ====
/-
# The launch: who starts with what, and the run of the whole program on all devices
-/
module

public import proofs.«01_k».proof.Proof.Body
public import Idealize.ShloMosaic.Lib.Pipeline.CollectiveSegs

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body as the pipeline asks for it -/

/-- Each window's contents after the one point, and what is held and owed before and after it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ m c
  q _ := fullShare
  owed t := match t with
    | ⟨0, _⟩ => owed₀ c
    | ⟨_ + 1, _⟩ => 0

set_option maxRecDepth 16384 in
/-- The body's part of the pipeline. -/
theorem body_obligation (c : Dev nD) : BodyObligation (dats (F := F) m ρ 0 c) (defs₀ (F := F)) 𝒱₀ () Set.univ := fun t => by
  rw [fin_N0 t, bigSep_W0, bigSep_W0]
  simp only [owns_whole]
  show iprop(Φ₀ m c ∗ (dats m ρ 0 c).owesAt () t0_0.castSucc
      ∗ (∃ d, xPts c ((dats m ρ 0 c).before (0 : Fin 3) t0_0 d))
      ∗ (∃ d, wPts c ((dats m ρ 0 c).before (1 : Fin 3) t0_0 d))
      ∗ (∃ d, oPts c ((dats m ρ 0 c).before (2 : Fin 3) t0_0 d)))
    ⊢ run c (cc0_body xM (Memref.isWhole_whole _) wM (Memref.isWhole_whole _) oM (Memref.isWhole_whole _) gM (Memref.isWhole_whole _) cc0_scratch1 cc0_scratch2)
        fun _ => iprop(Φ₁ m c ∗ (dats m ρ 0 c).owesAt () t0_0.succ ∗ xPts c (xstg m c) ∗ wPts c (wstg m c) ∗ oPts c (outAt m c))
  rw [body_eq]
  unfold run
  rw [wp_deviceId]
  have h0 (d) : (dats m ρ 0 c).before (0 : Fin 3) t0_0 d = xstg m c := by unfold Dat.before; rw [if_pos (fetch0_0 t0_0)]; rfl
  have h1 (d) : (dats m ρ 0 c).before (1 : Fin 3) t0_0 d = wstg m c := by unfold Dat.before; rw [if_pos (fetch0_1 t0_0)]; rfl
  unfold Φ₀ start Dat.owesAt Pipeline.owesWithin
  rw [show (dats m ρ 0 c).owed t0_0.castSucc = owed₀ c from rfl, show (dats m ρ 0 c).owed t0_0.succ = 0 from rfl]
  iintro ⟨⟨⟨⟨%K, Hg⟩, HcB, HcV, Hl⟩, ⟨%f, Hs⟩⟩, ⟨%W, %hW, HO⟩, ⟨%d0, Hx⟩, ⟨%d1, Hw⟩, ⟨%d2, Ho⟩⟩
  rw [h0, h1]
  iapply (body_run m K c W f _ _) $$ [Hg HcB HcV Hl Hs HO Hx Hw Ho]
  · isplitl [Hg HcB HcV Hl]
    · isplitl [Hg]; · iexact Hg
      isplitl [HcB]; · iexact HcB
      isplitl [HcV] <;> iassumption
    isplitl [Hs]; · iexact Hs
    isplitl [HO]; · iexact HO
    isplitl [Hx]; · iexact Hx
    isplitl [Hw] <;> iassumption
  iintro ⟨HΦ, ⟨%W', HO⟩, Hx, Hw, Ho⟩
  isplitl [HΦ]; · iexact HΦ
  isplitl [HO]
  · iexists W'
    isplitr; · ipureintro; exact fun _ _ => Or.inl trivial
    iexact HO
  isplitl [Hx]; · iexact Hx
  isplitl [Hw] <;> iassumption

/-! ## The cells and the tokens of the protocol -/

theorem ownSemFacts : Pipeline.OwnSemFacts cfg0.spec osem := by decide +kernel

theorem share_full (c : Dev nD) (w : Fin cfg0.W) : (dats m ρ 0 c).share w = fullShare := by unfold Dat.share; split <;> rfl

theorem kcell_inj {c d : Dev nD} {k l : Kind} (h : kcell c k = kcell d l) : c = d ∧ k = l :=
  ⟨congrArg (fun g : GSem nD τ sig => g.1.1) h, csem_injective (congrArg Prod.snd h)⟩

/-- Every cell of every device. -/
def cells : Finset (GSem nD τ sig) :=
  Finset.univ.map ⟨fun ck : Dev nD × Kind => kcell ck.1 ck.2, fun _ _ h => Prod.ext (kcell_inj h).1 (kcell_inj h).2⟩

/-- The cell and the duty that a token is for: a signal's at a barrier, or an own semaphore's one duty. -/
abbrev tokAt (ct : Dev nD × (Fin 32 ⊕ Own)) : GSem nD τ sig × ℕ × Fin 32 := match ct.2 with
  | .inl t => (kcell ct.1 (.inl ()), 0, t)
  | .inr o => (kcell ct.1 (.inr o), 0, 0)
theorem tokAt_injective : Function.Injective tokAt := by
  rintro ⟨c, t | o⟩ ⟨d, t' | o'⟩ h
  · obtain ⟨rfl, -⟩ := kcell_inj (congrArg Prod.fst h)
    rw [show t = t' from congrArg (fun x : GSem nD τ sig × ℕ × Fin 32 => x.2.2) h]
  · exact absurd (kcell_inj (congrArg Prod.fst h)).2 (by simp)
  · exact absurd (kcell_inj (congrArg Prod.fst h)).2 (by simp)
  · obtain ⟨rfl, h2⟩ := kcell_inj (congrArg Prod.fst h)
    rw [Sum.inr.inj h2]
def tokens : Finset (GSem nD τ sig × ℕ × Fin 32) := Finset.univ.map ⟨tokAt, tokAt_injective⟩

def u₀ : UU := (initOf (Pipeline.cells cfgs cellOf_inj) (Pipeline.launchToks cfgs cellOf_inj), initOf cells tokens)

/-- The tokens of the duties at device `c`'s own cells. -/
def toks (c : Dev nD) : sProp 𝕄 :=
  iprop((bigSep Finset.univ fun t => dutyTok ER (barCell c) 0 t) ∗ (bigSep Finset.univ fun s => dutyTok ER (sendCell s c) 0 0)
    ∗ bigSep Finset.univ fun s => dutyTok ER (recvCell s c) 0 0)

/-- What device `c` is dealt, -/
def G (c : Dev nD) : sProp 𝕄 :=
  iprop((bigSep Finset.univ fun k : Kind => roundState ER (sched m) (kcell c k) 0)
    ∗ ((bigSep Finset.univ fun k : Kind => atPos ER (kcell c k) 0 ∅ 0) ∗ bigSep Finset.univ fun k : Kind => reached ER (kcell c k) 0) ∗ toks c)
/-- and what it has once everybody's cells are shared. -/
def G' (c : Dev nD) : sProp 𝕄 := iprop(∃ K, ghost m K c)

omit [FloatOps F] in
theorem fund : BI.own (ER (initOf cells tokens)) ⊢ (|==> bigSep Finset.univ (G m) : sProp 𝕄) := by
  have hX (Φ : GSem nD τ sig → sProp 𝕄) : bigSep cells Φ = bigSep Finset.univ fun c : Dev nD => bigSep Finset.univ fun k : Kind => Φ (kcell c k) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]
    exact bigSep_congr fun c _ => by unfold toks; rw [bigSep_univ_sum, own_split]; rfl
  iintro HX
  imod (Rounds.fund ER (sched m) cells tokens) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; rw [bigSep_sep', bigSep_sep', bigSep_sep']
  isplitl [Hst']; · iexact Hst'
  isplitl [Hat' Hr']
  · isplitl [Hat'] <;> iassumption
  iexact Htok'

/-! ## Sharing the cells -/

omit [FloatOps F] in
theorem unscoped_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
/-- A device's semaphores at zero are its cells at zero. -/
theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : Kind => semVal (kcell c k) 0 : sProp 𝕄) := by
  have hk : (bigSep Finset.univ fun k : Kind => semVal (kcell c k) 0 : sProp 𝕄) = iprop(semVal (barCell c) 0 ∗ bigSep Finset.univ fun o : Own => semVal (kcell c (.inr o)) 0) := by
    rw [bigSep_univ_sum, bigSep_univ_of_subsingleton ()]; rfl
  rw [unscoped_eq, hk, Pipeline.ownSems0]
  iintro ⟨HO, HB⟩
  isplitl [HB]; · iexact HB
  iexact HO

omit [FloatOps F] in
theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell c k)))
          ∗ ((bigSep Finset.univ fun k : Kind => atPos ER (kcell c k) 0 ∅ 0) ∗ bigSep Finset.univ fun k : Kind => reached ER (kcell c k) 0) ∗ toks c) := by
  have h : iprop((bigSep Finset.univ fun k : Kind => semVal (kcell c k) 0) ∗ bigSep Finset.univ fun k : Kind => roundState ER (sched m) (kcell c k) 0)
      ⊢ (|={Set.univ}=> bigSep Finset.univ fun k => iprop(∃ κ : ℕ, cellInv ER (sched m) κ (kcell c k)) : sProp 𝕄) := by
    rw [← bigSep_sep']
    exact (bigSep_mono fun k _ => (Rounds.body_intro ER (sched m) (kcell c k)).trans inv_alloc).trans (bigSep_fupd _ _)
  unfold G
  iintro ⟨Hos, Hus, Hst, Hrest⟩
  ihave Hv := (sems_eq (F := F) c) $$ [Hos Hus]
  · isplitl [Hos] <;> iassumption
  imod h $$ [Hv Hst] with Hinv
  · isplitl [Hv] <;> iassumption
  imodintro
  isplitl [Hinv] <;> iassumption

omit [FloatOps F] in
/-- One fact for each device and offset, told of the device at that offset instead. -/
theorem move (Φ : Fin 32 → Dev nD → sProp 𝕄) :
    (bigSep Finset.univ fun c : Dev nD => bigSep Finset.univ fun s => Φ s c) = bigSep Finset.univ fun c : Dev nD => bigSep Finset.univ fun s => Φ s (shift s c) := by
  rw [bigSep_univ_comm, bigSep_univ_comm (fun (c : Dev nD) s => Φ s (shift s c))]
  exact bigSep_congr fun s _ => bigSep_univ_equiv (turn s) (Φ s)

omit [FloatOps F] in
/-- Each token goes to the device that pays the duty. -/
theorem toks_move : (bigSep Finset.univ fun c : Dev nD => (toks c : sProp 𝕄)) ⊢ bigSep Finset.univ fun c : Dev nD => payToks c := by
  have hb : (bigSep Finset.univ fun c : Dev nD => bigSep Finset.univ fun t => (dutyTok ER (barCell c) 0 t : sProp 𝕄))
      = bigSep Finset.univ fun c : Dev nD => bigSep Finset.univ fun s => (dutyTok ER (barCell (shift s c)) 0 (-s) : sProp 𝕄) :=
    (bigSep_congr fun c _ => bigSep_univ_equiv negate fun t => (dutyTok ER (barCell c) 0 t : sProp 𝕄)).trans
      (move fun s c => (dutyTok ER (barCell c) 0 (-s) : sProp 𝕄))
  have hr := move fun s c => (dutyTok ER (recvCell s c) 0 0 : sProp 𝕄)
  have hpos (Φ : Fin 32 → Dev nD → sProp 𝕄) : (bigSep Finset.univ fun c : Dev nD => bigSep Finset.univ fun s => Φ s c)
      ⊢ bigSep Finset.univ fun c : Dev nD => bigSep others fun s => Φ s c := bigSep_mono fun c _ => bigSep_subset (Finset.subset_univ _)
  unfold toks payToks
  rw [bigSep_sep', bigSep_sep', hb, hr, bigSep_sep', bigSep_congr (s := Finset.univ) fun (c : Dev nD) _ =>
    bigSep_sep' others (fun s => (dutyTok ER (sendCell s c) 0 0 : sProp 𝕄)) (fun s => dutyTok ER (recvCell s (shift s c)) 0 0), bigSep_sep']
  exact BIClass.sep_mono (hpos _) (BIClass.sep_mono (hpos _) (hpos _))

omit [FloatOps F] in
theorem regroup :
    (bigSep Finset.univ fun c : Dev nD => iprop((bigSep Finset.univ fun k => iprop(∃ κ : ℕ, cellInv ER (sched m) κ (kcell c k)))
          ∗ ((bigSep Finset.univ fun k : Kind => atPos ER (kcell c k) 0 ∅ 0) ∗ bigSep Finset.univ fun k : Kind => reached ER (kcell c k) 0) ∗ toks c) : sProp 𝕄)
      ⊢ bigSep Finset.univ (G' m) := by
  have hin (K : Dev nD × Kind → ℕ) : iprop(records m K ∗ bigSep Finset.univ fun c : Dev nD => linear c) ⊢ bigSep Finset.univ (G' m) :=
    with_persistent fun c _ => show iprop(records m K ∗ linear c) ⊢ G' m c by
      unfold G' ghost; iintro H; iexists K; iexact H
  rw [bigSep_sep', bigSep_sep', bigSep_sep', ← bigSep_univ_prod (fun ck : Dev nD × Kind => iprop(∃ κ : ℕ, cellInv ER (sched m) κ (kcell ck.1 ck.2))),
    ← bigSep_univ_prod (fun ck : Dev nD × Kind => (reached ER (kcell ck.1 ck.2) 0 : sProp 𝕄))]
  iintro ⟨HI, ⟨Hat, #HR⟩, Htok⟩
  ihave HK := (BI.bigSep_exists_pi Finset.univ (fun (ck : Dev nD × Kind) (κ : ℕ) => (cellInv ER (sched m) κ (kcell ck.1 ck.2) : sProp 𝕄))) $$ HI
  icases HK with ⟨%K, #HI⟩
  ihave Htk := (toks_move (F := F)) $$ Htok
  iapply (hin K)
  isplitr
  · unfold records; isplitl; · iexact HI
    iexact HR
  · unfold linear; rw [bigSep_sep']
    isplitl [Hat] <;> iassumption

omit [FloatOps F] in
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (regroup m))

/-! ## The credits at launch -/

omit [FloatOps F] in
/-- The devices' dues at one cell, where device `d` owes `n` to the cell `f s` of the device at each positive offset `s`. -/
theorem dues (f : Fin 32 → Kind) (n : ℕ) (c : Dev nD) (k : Kind) :
    (∑ d : Dev nD, (∑ s ∈ others, (tallyAt (kcell (shift s d) (f s)) () n : CellTallies nD τ sig Unit)) (kcell c k) ())
      = ∑ s ∈ others, if k = f s then n else 0 := by
  rw [Finset.sum_congr rfl fun d _ => sum_tally_apply others (fun s => kcell (shift s d) (f s)) n (kcell c k) (), Finset.sum_comm]
  refine Finset.sum_congr rfl fun s _ => ?_
  refine ((turn s).sum_comp (fun d : Dev nD => if kcell c k = kcell d (f s) then n else 0)).trans ?_
  rw [Finset.sum_eq_single c]
  · exact if_congr ⟨fun h => (kcell_inj h).2, fun h => h ▸ rfl⟩ rfl rfl
  · exact fun d _ hd => if_neg fun h => hd (kcell_inj h).1.symm
  · exact fun h => absurd (Finset.mem_univ c) h

omit [FloatOps F] in
theorem dues_all (c : Dev nD) (k : Kind) :
    launchCredit (Pipeline.owing owed₀) 0 (kcell c k) ()
      = (∑ s ∈ others, if k = .inr (true, s) then N else 0) + ∑ s ∈ others, if k = .inl () then 1 else 0 := by
  rw [Pipeline.launchCredit_owing, ← dues (fun s => .inr (true, s)) N c k, ← dues (fun _ => .inl ()) 1 c k, ← Finset.sum_add_distrib]
  rfl

omit [FloatOps F] in
theorem launch_bar (c : Dev nD) :
    tallyOn (barCell c) (launchCredit (Pipeline.owing owed₀) 0 (barCell c)) = (tallyAt (barCell c) () 31 : CellTallies nD τ sig Unit) := by
  unfold tallyAt; refine congrArg _ (Finsupp.ext fun u => ?_)
  cases u
  rw [Finsupp.single_eq_same]
  have h := dues_all c (.inl ())
  rw [Finset.sum_eq_zero fun s _ => if_neg (by simp), Finset.sum_congr rfl fun s _ => if_pos rfl, Finset.sum_const, Nat.zero_add,
    show others.card = 31 from by decide, smul_eq_mul, Nat.mul_one] at h
  rw [show kcell c (.inl ()) = barCell c from rfl] at h
  convert h using 2

omit [FloatOps F] in
theorem launch_recv (c : Dev nD) {s : Fin 32} (h : s ∈ others) :
    tallyOn (recvCell s c) (launchCredit (Pipeline.owing owed₀) 0 (recvCell s c)) = (tallyAt (recvCell s c) () N : CellTallies nD τ sig Unit) := by
  unfold tallyAt; refine congrArg _ (Finsupp.ext fun u => ?_)
  cases u
  rw [Finsupp.single_eq_same]
  have e := dues_all c (.inr (true, s))
  rw [Finset.sum_eq_zero (f := fun t : Fin 32 => if (Sum.inr (true, s) : Kind) = .inl () then 1 else 0) fun _ _ => if_neg (by simp), Nat.add_zero,
    Finset.sum_eq_single_of_mem s h fun t _ ht => if_neg fun e => ht (by simpa using e.symm), if_pos rfl] at e
  rw [show kcell c (.inr (true, s)) = recvCell s c from rfl] at e
  convert e using 2

omit [FloatOps F] in
theorem creds (c : Dev nD) :
    (Pipeline.launchCred owed₀ c : sProp 𝕄) ⊢ iprop(cred (tallyAt (barCell c) () 31) ∗ bigSep others fun s => cred (tallyAt (recvCell s c) () N)) := by
  unfold Pipeline.launchCred
  rw [bigSep_univ_at _ (SemLoc.reg barS), launch_bar]
  refine sep_mono_right ?_
  rw [bigSep_congr fun s h => congrArg cred (launch_recv c h).symm]
  have hmap := bigSep_map (s := others) (e := ⟨fun s : Fin 32 => (SemLoc.dma (recvS s) : SemLoc sig), fun a b h => by
      have := csem_injective (a₁ := .inr (true, a)) (a₂ := .inr (true, b)) h; simpa using this⟩)
    (Φ := fun sm => (cred (tallyOn ((c.tc : Thread nD τ), sm) (launchCredit (Pipeline.owing owed₀) 0 ((c.tc : Thread nD τ), sm))) : sProp 𝕄))
  refine BIBase.Entails.trans (bigSep_subset ?_) (Entails.of_eq hmap)
  intro sm hsm
  obtain ⟨s, -, rfl⟩ := Finset.mem_map.mp hsm
  exact Finset.mem_erase.mpr ⟨by simp, Finset.mem_univ _⟩

/-! ## The run -/

omit [FloatOps F] in
theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN] <;> iassumption
  · iempintro

theorem phi_in (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show cfg0.spec = spec0 from rfl, scopedRest0_eq]
  unfold Φ₀
  iintro ⟨Hs, -, Hr⟩
  isplitl [Hs] <;> iassumption

theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, show cfg0.spec = spec0 from rfl, scopedRest0_eq, unscoped_eq, Pipeline.ownSems0]
  unfold Φ₁
  iintro ⟨Hr, Hz, HzB⟩
  isplitl [HzB]; · iexact HzB
  isplitl [Hz]; · iexact Hz
  iexists (gathered m c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The contents of each window's array at the end. -/
def final (c : Dev nD) (w : Fin cfg0.W) : Buf (Elt F) ((cfg0.win w).arr.view.loc (c : Thread nD τ)) := (dats m ρ 0 c).arrAt w cfg0.N

set_option maxRecDepth 8000 in
/-- From any memory with all counters at zero every fair run of the 32 devices ends, with each window's array at its final contents on
    every device and all counters at zero. -/
theorem run_main : θ_run defs (onTc (τ := τ) (main (F := F))) (s₀ m ρ)
    (fun r => (∀ c : Dev nD, ∀ w : Fin cfg0.W, r.2.mem ((cfg0.win w).arr.view.loc (c : Thread nD τ)) = final m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := owed₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The staged arguments' arrays hold what they held. -/
theorem final_x (c : Dev nD) : final m ρ c (0 : Fin 3) = m ((c : Thread nD τ).loc main_arg0) := (dats (F := F) m ρ 0 c).arrAt_in (0 : Fin 3) rfl _
theorem final_w (c : Dev nD) : final m ρ c (1 : Fin 3) = m ((c : Thread nD τ).loc main_arg1) := (dats (F := F) m ρ 0 c).arrAt_in (1 : Fin 3) rfl _

end Cert.A2A

end
-- ==== Proof.Value.lean ====
/-
# The value: every device's result is its rows of the SiLU of the whole product

The rows that device `c` gathers are rows `128 c … 128 c + 127` of the whole `x`, so its product is those rows of the whole
product, and of every entry `y` of it the device computes `y / (1 + e⁻ʸ)`. Where `y` lies between −60 and 60 the clip of the
reference is the identity, and so the reference computes the same.
-/
module

public import proofs.«01_k».proof.Proof.Launch
public import proofs.«01_k».proof.Proof.Gen.On_unclipped
public import proofs.«01_k».proof.Proof.Gen.ReferenceIdeal.Run
public import Idealize.ShloMosaic.Lib.StackMember
public import Idealize.ShloMosaic.Lib.KernelVsHost
public import Idealize.ShloMosaic.Lib.IdealHost

@[expose] public section

noncomputable section

namespace Cert.A2A

open Cert.KernelIdeal Cert.KernelIdeal.Gen
open Idealize.ShloMosaic Idealize.ShloMosaic.TcCoe Idealize.ShloMosaic.ValueIdx

/-! ## What each device is left with, for any float values -/

section AnyFloats

variable {F : FTy → Type} [FloatOps F]
variable (m : (ℓ : Loc nD τ sig) → Buf (Elt F) ℓ) (ρ : Dev nD → PrngReg)

/-- The staged block of `x` is the array itself; -/
theorem xstg_eq (c : Dev nD) : xstg m c = m ((c : Thread nD τ).loc main_arg0) :=
  Memref.read_access_unit_zero (Elt F) main_arg0 (funext fun a => by fin_cases a <;> decide) (fun a => by fin_cases a <;> decide) _

/-- the staged `w` likewise. -/
theorem wstg_eq (c : Dev nD) : wstg m c = m ((c : Thread nD τ).loc main_arg1) :=
  Memref.read_access_unit_zero (Elt F) main_arg1 (funext fun a => by fin_cases a <;> decide) (fun a => by fin_cases a <;> decide) _

/-- The result array of a device ends holding what its body computed. -/
theorem final_out (c : Dev nD) : final m ρ c (2 : Fin 3) = outAt m c := by
  have hread : (win0_2.blk (0 : Fin 1)).view.read (Elt F) (final m ρ c (2 : Fin 3)) = outAt m c := by
    unfold final
    rw [show cfg0.N = ((0 : Fin 1) : Fin cfg0.N).val + 1 from rfl, (dats m ρ 0 c).arrAt_succ (2 : Fin 3) (0 : Fin 1),
      show (cfg0.win (2 : Fin 3)).flush (0 : Fin 1) = true from by decide, if_pos rfl]
    exact View.read_write_univ _ _
  rw [← hread]
  exact (Memref.read_access_unit_zero (Elt F) main_v1 (funext fun a => by fin_cases a <;> decide) (fun a => by fin_cases a <;> decide) _).symm

end AnyFloats

/-! ## One entry -/

/-- The literal 60, and the literal −60 is its negative. -/
theorem lit_sixty : Ideal.ofBits .f32 0x42700000#32 = ((60 : ℝ) : EReal) := by
  simp [Ideal.ofBits, Ideal.ieee, -EReal.coe_mul]; norm_num
theorem lit_neg_sixty : Ideal.ofBits .f32 0xC2700000#32 = ((-60 : ℝ) : EReal) := by
  simp [Ideal.ofBits, Ideal.ieee, -EReal.coe_mul, -EReal.coe_neg]; norm_num

/-- One plus an exponential is not zero. -/
theorem one_add_exp_ne (x : EReal) : 1 + Ideal.exp x ≠ 0 := by
  have h : (0 : EReal) ≤ Ideal.exp x := by
    induction x with
    | bot => exact le_refl _
    | top => exact le_top
    | coe r => exact EReal.coe_nonneg.mpr (Real.exp_pos r).le
  exact ((zero_lt_one' EReal).trans_le (le_add_of_nonneg_right h)).ne'

/-- A value of absolute value at most 60 is left alone by the clip to [−60, 60]. -/
theorem clip_eq {y : EReal} (h : max y (-y) ≤ ((60 : ℝ) : EReal)) : min ((60 : ℝ) : EReal) (max ((-60 : ℝ) : EReal) y) = y := by
  have hl : ((-60 : ℝ) : EReal) ≤ y := by
    rw [EReal.coe_neg]
    exact EReal.neg_le.mp ((le_max_right _ _).trans h)
  rw [max_eq_right hl, min_eq_right ((le_max_left _ _).trans h)]

/-! ## The product -/

variable (m : (ℓ : Loc nD τ sig) → Buf (Elt Ideal) ℓ)
variable (x : FVec Ideal (⟨2, ![4096, 4096]⟩ : Shape) .f32) (w : FVec Ideal (⟨2, ![4096, 2048]⟩ : Shape) .f32)

/-- The reference's product of the whole arrays. -/
abbrev product : FVec Ideal (⟨2, ![4096, 2048]⟩ : Shape) .f32 :=
  Host.dotGeneral Cert.ReferenceIdeal.dot_S4096x4096_S4096x2048_S4096x2048_1_0_0_1_n_n none x w

/-- Row `p` of block `c`, among the 32 blocks of 128 rows, -/
def row (c : Dev nD) (p : Fin 128) : Fin 4096 := ⟨c.val * 128 + p.val, by have h : c.val < 32 := c.isLt; omega⟩

/-- What device `c` gathers is its rows of the whole `x`, when every device holds its columns of it. -/
theorem gathered_rows (hx : ∀ d : Dev nD, m ((d : Thread nD τ).loc main_arg0) = Layout.block ⟨2, ![4096, 128]⟩ ⟨2, ![4096, 4096]⟩ 1 32 d x)
    (c : Dev nD) (p : Fin 128) (k : Fin 4096) : gathered m c (ix2 p k) = x (ix2 (row c p) k) := by
  unfold gathered
  rw [xstg_eq, hx]
  refine congrArg x (funext fun a => Fin.ext ?_)
  match a with
  | ⟨0, _⟩ => rfl
  | ⟨1, _⟩ => exact Nat.div_add_mod' k.val 128

/-- Device `c`'s product is its rows of the whole product. -/
theorem product_rows (hx : ∀ d : Dev nD, m ((d : Thread nD τ).loc main_arg0) = Layout.block ⟨2, ![4096, 128]⟩ ⟨2, ![4096, 4096]⟩ 1 32 d x)
    (hw : ∀ d : Dev nD, m ((d : Thread nD τ).loc main_arg1) = w) (c : Dev nD) (p : Fin 128) (q : Fin 2048) :
    k0_pay3 (gathered m c) (wstg m c) (ix2 p q) = product x w (ix2 (row c p) q) := by
  unfold k0_pay3
  rw [shapeCast_self, wstg_eq, hw, matmul_zero_eq_dotGeneral]
  refine (StackMember.dotGeneral_plain_apply (m := 128) (k := 4096) (n := 2048) none (gathered m c) w p q).trans ?_
  refine Eq.trans ?_ (StackMember.dotGeneral_plain_apply (m := 4096) (k := 4096) (n := 2048) none x w (row c p) q).symm
  exact Finset.sum_congr rfl fun k _ => by rw [gathered_rows m x hx]

/-! ## The result -/

/-- The SiLU of the whole product, -/
abbrev siluOut : FVec Ideal (⟨2, ![4096, 2048]⟩ : Shape) .f32 := fun i =>
  Ideal.div (product x w i) (1 + Ideal.exp (-(product x w i)))

/-- and the same with the reference's clip. -/
abbrev refOut : FVec Ideal (⟨2, ![4096, 2048]⟩ : Shape) .f32 := fun i =>
  Ideal.div (product x w i) (1 + Ideal.exp (-(min ((60 : ℝ) : EReal) (max ((-60 : ℝ) : EReal) (product x w i)))))

/-- Where the mask is set the entry of the product is at most 60 in absolute value. -/
theorem mask_le {i : (⟨2, ![4096, 2048]⟩ : Shape).Idx} (h : Cert.On_unclipped.fn (F := Ideal) x w i = 1#1) :
    max (product x w i) (-(product x w i)) ≤ ((60 : ℝ) : EReal) := by
  have h' : BitVec.ofBool (decide (max (product x w i) (-(product x w i)) ≤ Ideal.ofBits .f32 0x42700000#32)) = 1#1 := h
  rw [lit_sixty] at h'
  by_contra hn
  rw [decide_eq_false hn] at h'
  exact absurd h' (by decide)

/-- There the clip changes nothing. -/
theorem refOut_eq {i : (⟨2, ![4096, 2048]⟩ : Shape).Idx} (h : Cert.On_unclipped.fn (F := Ideal) x w i = 1#1) :
    refOut x w i = siluOut x w i := by
  unfold refOut siluOut
  rw [clip_eq (mask_le x w h)]

/-- Device `c`'s result is its rows of the SiLU of the whole product, at every entry. -/
theorem out_eq (hx : ∀ d : Dev nD, m ((d : Thread nD τ).loc main_arg0) = Layout.block ⟨2, ![4096, 128]⟩ ⟨2, ![4096, 4096]⟩ 1 32 d x)
    (hw : ∀ d : Dev nD, m ((d : Thread nD τ).loc main_arg1) = w) (c : Dev nD) :
    outAt m c = Layout.block ⟨2, ![128, 2048]⟩ ⟨2, ![4096, 2048]⟩ 0 32 c (siluOut x w) := by
  funext i
  obtain ⟨p, q, rfl⟩ : ∃ (p : Fin 128) (q : Fin 2048), i = ix2 p q := ⟨i 0, i 1, eq_ix2 i⟩
  have hidx : (by decide : Layout.Tiles ⟨2, ![128, 2048]⟩ ⟨2, ![4096, 2048]⟩ 0 32).idx c (ix2 p q) = ix2 (row c p) q :=
    funext fun a => Fin.ext (by match a with | ⟨0, _⟩ => rfl | ⟨1, _⟩ => rfl)
  rw [Layout.block_apply, hidx]
  show k0_pay3 (gathered m c) (wstg m c) (ix2 p q)
      * Ideal.div (Ideal.ofBits .f32 0x3F800000#32)
          (Ideal.ofBits .f32 0x3F800000#32 + Ideal.exp (Ideal.ofBits .f32 0x00000000#32 - k0_pay3 (gathered m c) (wstg m c) (ix2 p q))) = _
  rw [product_rows m x w hx hw, Ideal.ofBits_one_f32, Ideal.ofBits_zero_f32, zero_sub, Ideal.mul_one_div (one_add_exp_ne _)]

end Cert.A2A

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.On_unclipped
public import proofs.«01_k».proof.Proof.Gen.SiluIdeal
public import proofs.«01_k».proof.Proof.Gen.SiluIdeal.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- For any float values: every run of the kernel ends, the arguments as they were and every counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (Cert.A2A.final_x m ρ c), (h.1 c (1 : Fin 3)).trans (Cert.A2A.final_w m ρ c)⟩, h.2⟩)
    (Cert.A2A.run_main m ρ)

/-- The two printed programs differ in nothing but their name: their kernels' body tables are the same, -/
theorem bodies_eq {F : FTy → Type} [FloatOps F] : Cert.Kernel.defs₀ (F := F) = Cert.KernelIdeal.defs₀ (F := F) := by
  funext p l a
  match p, l, a with
  | .tc, ⟨0, _⟩, _ => rfl
  | .scScalar _, _, _ => rfl
  | .scVector _ _, _, _ => rfl

/-- and so are their whole body tables. -/
theorem tables_eq {F : FTy → Type} [FloatOps F] : Cert.Kernel.defs (F := F) = Cert.KernelIdeal.defs (F := F) :=
  congrArg (Pipeline.defs Cert.Kernel.pcfgs) bodies_eq

/-- On bit patterns: the run of the other program, read there. -/
theorem frame_kernel : Cert.quiescent_Kernel := fun m ρ _ => by
  rw [tables_eq]
  exact frame_any (F := Bits) m ρ

/-- On extended reals. -/
theorem frame_ideal : Cert.quiescent_KernelIdeal := fun m ρ _ => frame_any (F := Ideal) m ρ

/-- The reference ends with its arguments as they were; it has no semaphores. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- What the reference's run leaves is `refOut` of its arguments. -/
theorem reference_value (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v6)
            = Cert.A2A.refOut (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1) :=
  (θ_run Cert.ReferenceIdeal.defs _ _).mono
    (fun r h c => ⟨(h c).1.trans (funext fun i => by
        unfold Cert.A2A.refOut
        rw [← Cert.A2A.lit_sixty, ← Cert.A2A.lit_neg_sixty, ← Ideal.ofBits_one_f32]
        rfl), (h c).2⟩)
    (Cert.ReferenceIdeal.Value.run (F := Ideal) m ρ)

/-- The run of the unclipped program likewise leaves `siluOut`. -/
theorem silu_value (m : (ℓ : Loc Cert.SiluIdeal.nD Cert.SiluIdeal.τ Cert.SiluIdeal.sig) → Buf (Elt Ideal) ℓ)
    (ρ : Dev Cert.SiluIdeal.nD → PrngReg) :
    θ_run (Cert.SiluIdeal.defs (F := Ideal)) (onTc (τ := Cert.SiluIdeal.τ) (Cert.SiluIdeal.main (F := Ideal))) ⟨m, fun _ => 0, ρ⟩
      fun r => ∀ c : Dev Cert.SiluIdeal.nD,
        r.2.mem ((c.tc : Thread Cert.SiluIdeal.nD Cert.SiluIdeal.τ).loc Cert.SiluIdeal.main_v5)
            = Cert.A2A.siluOut (m ((c.tc : Thread Cert.SiluIdeal.nD Cert.SiluIdeal.τ).loc Cert.SiluIdeal.main_arg0))
                (m ((c.tc : Thread Cert.SiluIdeal.nD Cert.SiluIdeal.τ).loc Cert.SiluIdeal.main_arg1))
        ∧ r.2.mem ((c.tc : Thread Cert.SiluIdeal.nD Cert.SiluIdeal.τ).loc Cert.SiluIdeal.main_arg0)
            = m ((c.tc : Thread Cert.SiluIdeal.nD Cert.SiluIdeal.τ).loc Cert.SiluIdeal.main_arg0)
        ∧ r.2.mem ((c.tc : Thread Cert.SiluIdeal.nD Cert.SiluIdeal.τ).loc Cert.SiluIdeal.main_arg1)
            = m ((c.tc : Thread Cert.SiluIdeal.nD Cert.SiluIdeal.τ).loc Cert.SiluIdeal.main_arg1) :=
  (θ_run Cert.SiluIdeal.defs _ _).mono
    (fun r h c => ⟨(h c).1.trans (funext fun i => by
        unfold Cert.A2A.siluOut
        rw [← Ideal.ofBits_one_f32]
        rfl), (h c).2⟩)
    (Cert.SiluIdeal.Value.run (F := Ideal) m ρ)

/-- The unclipped program ends with its arguments as they were; it has no semaphores. -/
theorem frame_silu : Cert.quiescent_SiluIdeal := fun m ρ _ =>
  (θ_run Cert.SiluIdeal.defs _ _).mono
    (fun r h => ⟨fun c => (h c).2, sem_eq_zero_of_no_sems (by decide) r.2⟩)
    (Cert.SiluIdeal.Value.run (F := Ideal) m ρ)

/-- From the parts of whole arrays `x` and `w`, every device of the kernel ends with its rows of the SiLU of their product, its
arguments as they were. -/
theorem kernel_value (m : (ℓ : Loc Cert.KernelIdeal.nD Cert.KernelIdeal.τ Cert.KernelIdeal.sig) → Buf (Elt Ideal) ℓ)
    (ρ : Dev Cert.KernelIdeal.nD → PrngReg)
    (x : FVec Ideal (⟨2, ![4096, 4096]⟩ : Shape) .f32) (w : FVec Ideal (⟨2, ![4096, 2048]⟩ : Shape) .f32)
    (hx : ∀ d : Dev Cert.KernelIdeal.nD, m ((d.tc : Thread Cert.KernelIdeal.nD Cert.KernelIdeal.τ).loc Cert.KernelIdeal.main_arg0)
      = Layout.block ⟨2, ![4096, 128]⟩ ⟨2, ![4096, 4096]⟩ 1 32 d x)
    (hw : ∀ d : Dev Cert.KernelIdeal.nD, m ((d.tc : Thread Cert.KernelIdeal.nD Cert.KernelIdeal.τ).loc Cert.KernelIdeal.main_arg1) = w) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c.tc : Thread Cert.KernelIdeal.nD Cert.KernelIdeal.τ).loc Cert.KernelIdeal.main_v1)
            = Layout.block ⟨2, ![128, 2048]⟩ ⟨2, ![4096, 2048]⟩ 0 32 c (Cert.A2A.siluOut x w)
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1) :=
  (θ_run Cert.KernelIdeal.defs _ _).mono
    (fun _ h c => ⟨((h.1 c (2 : Fin 3)).trans (Cert.A2A.final_out m ρ c)).trans (Cert.A2A.out_eq m x w hx hw c),
      (h.1 c (0 : Fin 3)).trans (Cert.A2A.final_x m ρ c), (h.1 c (1 : Fin 3)).trans (Cert.A2A.final_w m ρ c)⟩)
    (Cert.A2A.run_main (F := Ideal) m ρ)

/-- From arguments cut as the claim says, every device of the kernel ends with its rows of the reference's result, at each entry
where the mask is set, and both programs leave their arguments as they were. -/
theorem value_clipped : Cert.algebraic_KernelIdeal_ReferenceIdeal_on_unclipped := fun m g m' g' _ hag =>
  ⟨_, (θ_run Cert.KernelIdeal.defs _ _).mono
      (fun r h c => ⟨fun i hon => (congrFun (h c).1 i).trans (Cert.A2A.refOut_eq _ _ hon).symm, (h c).2⟩)
      (kernel_value m g _ _ (fun d => (hag d).1) fun d => (hag d).2),
    (θ_run Cert.ReferenceIdeal.defs _ _).mono
      (fun r h => ⟨fun i _ => congrFun (h 0).1 i, (h 0).2⟩)
      (reference_value m' g')⟩

/-- Against the unclipped program, at every entry. -/
theorem value_silu : Cert.algebraic_KernelIdeal_SiluIdeal := fun m g m' g' _ hag =>
  ⟨_, kernel_value m g _ _ (fun d => (hag d).1) (fun d => (hag d).2),
    (θ_run Cert.SiluIdeal.defs _ _).mono (fun r h => h 0) (silu_value m' g')⟩

/-- Everything that the certificate claims. -/
theorem claim : Cert.Claim :=
  ⟨Cert.Kernel.Gen.facts, Cert.KernelIdeal.Gen.facts, Cert.ReferenceIdeal.Gen.facts, Cert.SiluIdeal.Gen.facts, Cert.On_unclipped.Gen.facts,
    frame_kernel, frame_ideal, frame_reference, frame_silu, trivial, value_clipped, value_silu⟩

end Cert.Proof

end
